-- ==== Defs.lean ====
def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainRefIdeal (m : (ℓ : Loc Cert.MainRefIdeal.nD Cert.MainRefIdeal.τ Cert.MainRefIdeal.sig) → Buf (Elt Ideal) ℓ) : Prop :=
  True

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5))
      ∧ r.2.sem = fun _ => 0)

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1)
      ∧ r.2.mem ((c.tc : Thread Cert.Main.nD Cert.Main.τ).loc Cert.Main.main_arg2) = m ((c.tc : Thread Cert.Main.nD Cert.Main.τ).loc Cert.Main.main_arg2)
      ∧ r.2.mem ((c.tc : Thread Cert.Main.nD Cert.Main.τ).loc Cert.Main.main_arg3) = m ((c.tc : Thread Cert.Main.nD Cert.Main.τ).loc Cert.Main.main_arg3)
      ∧ r.2.mem ((c.tc : Thread Cert.Main.nD Cert.Main.τ).loc Cert.Main.main_arg4) = m ((c.tc : Thread Cert.Main.nD Cert.Main.τ).loc Cert.Main.main_arg4)
      ∧ r.2.mem ((c.tc : Thread Cert.Main.nD Cert.Main.τ).loc Cert.Main.main_arg5) = m ((c.tc : Thread Cert.Main.nD Cert.Main.τ).loc Cert.Main.main_arg5)
      ∧ r.2.mem ((c.tc : Thread Cert.Main.nD Cert.Main.τ).loc Cert.Main.main_arg6) = m ((c.tc : Thread Cert.Main.nD Cert.Main.τ).loc Cert.Main.main_arg6)
      ∧ r.2.mem ((c.tc : Thread Cert.Main.nD Cert.Main.τ).loc Cert.Main.main_arg7) = m ((c.tc : Thread Cert.Main.nD Cert.Main.τ).loc Cert.Main.main_arg7))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
      ∧ r.2.mem ((c.tc : Thread Cert.MainIdeal.nD Cert.MainIdeal.τ).loc Cert.MainIdeal.main_arg7) = m ((c.tc : Thread Cert.MainIdeal.nD Cert.MainIdeal.τ).loc Cert.MainIdeal.main_arg7))
      ∧ r.2.sem = fun _ => 0)

def quiescent_MainRefIdeal [hMainRefIdeal : Cert.MainRefIdeal.Facts] : Prop :=
  ∀ (m : (ℓ : Loc Cert.MainRefIdeal.nD Cert.MainRefIdeal.τ Cert.MainRefIdeal.sig) → Buf (Elt Ideal) ℓ) (g : Dev Cert.MainRefIdeal.nD → PrngReg), Pre_MainRefIdeal m →
    θ_run (Cert.MainRefIdeal.defs (F := Ideal)) (onTc (τ := Cert.MainRefIdeal.τ) (Cert.MainRefIdeal.main (F := Ideal))) ⟨m, fun _ => 0, g⟩ (fun r => (∀ c : Dev Cert.MainRefIdeal.nD,
      r.2.mem ((c.tc : Thread Cert.MainRefIdeal.nD Cert.MainRefIdeal.τ).loc Cert.MainRefIdeal.main_arg0) = m ((c.tc : Thread Cert.MainRefIdeal.nD Cert.MainRefIdeal.τ).loc Cert.MainRefIdeal.main_arg0)
      ∧ r.2.mem ((c.tc : Thread Cert.MainRefIdeal.nD Cert.MainRefIdeal.τ).loc Cert.MainRefIdeal.main_arg1) = m ((c.tc : Thread Cert.MainRefIdeal.nD Cert.MainRefIdeal.τ).loc Cert.MainRefIdeal.main_arg1)
      ∧ r.2.mem ((c.tc : Thread Cert.MainRefIdeal.nD Cert.MainRefIdeal.τ).loc Cert.MainRefIdeal.main_arg2) = m ((c.tc : Thread Cert.MainRefIdeal.nD Cert.MainRefIdeal.τ).loc Cert.MainRefIdeal.main_arg2)
      ∧ r.2.mem ((c.tc : Thread Cert.MainRefIdeal.nD Cert.MainRefIdeal.τ).loc Cert.MainRefIdeal.main_arg3) = m ((c.tc : Thread Cert.MainRefIdeal.nD Cert.MainRefIdeal.τ).loc Cert.MainRefIdeal.main_arg3)
      ∧ r.2.mem ((c.tc : Thread Cert.MainRefIdeal.nD Cert.MainRefIdeal.τ).loc Cert.MainRefIdeal.main_arg4) = m ((c.tc : Thread Cert.MainRefIdeal.nD Cert.MainRefIdeal.τ).loc Cert.MainRefIdeal.main_arg4)
      ∧ r.2.mem ((c.tc : Thread Cert.MainRefIdeal.nD Cert.MainRefIdeal.τ).loc Cert.MainRefIdeal.main_arg5) = m ((c.tc : Thread Cert.MainRefIdeal.nD Cert.MainRefIdeal.τ).loc Cert.MainRefIdeal.main_arg5)
      ∧ r.2.mem ((c.tc : Thread Cert.MainRefIdeal.nD Cert.MainRefIdeal.τ).loc Cert.MainRefIdeal.main_arg6) = m ((c.tc : Thread Cert.MainRefIdeal.nD Cert.MainRefIdeal.τ).loc Cert.MainRefIdeal.main_arg6)
      ∧ r.2.mem ((c.tc : Thread Cert.MainRefIdeal.nD Cert.MainRefIdeal.τ).loc Cert.MainRefIdeal.main_arg7) = m ((c.tc : Thread Cert.MainRefIdeal.nD Cert.MainRefIdeal.τ).loc Cert.MainRefIdeal.main_arg7))
      ∧ r.2.sem = fun _ => 0)

def preserves_Front_FrontIdeal : Prop :=
  True

def algebraic_FrontIdeal_FrontRefIdeal [hFrontIdeal : Cert.FrontIdeal.Facts] [hFrontRefIdeal : Cert.FrontRefIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
      ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)
      ∧ m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5)) →
    ∃ (v0 : (c : Dev Cert.FrontIdeal.nD) → Buf (Elt Ideal) ((c.tc : Thread Cert.FrontIdeal.nD Cert.FrontIdeal.τ).loc Cert.FrontIdeal.main_v0_0)) (v1 : (c : Dev Cert.FrontIdeal.nD) → Buf (Elt Ideal) ((c.tc : Thread Cert.FrontIdeal.nD Cert.FrontIdeal.τ).loc Cert.FrontIdeal.main_v0_1)) (v2 : (c : Dev Cert.FrontIdeal.nD) → Buf (Elt Ideal) ((c.tc : Thread Cert.FrontIdeal.nD Cert.FrontIdeal.τ).loc Cert.FrontIdeal.main_v0_2)) (v3 : (c : Dev Cert.FrontIdeal.nD) → Buf (Elt Ideal) ((c.tc : Thread Cert.FrontIdeal.nD Cert.FrontIdeal.τ).loc Cert.FrontIdeal.main_v0_3)) (v4 : (c : Dev Cert.FrontIdeal.nD) → Buf (Elt Ideal) ((c.tc : Thread Cert.FrontIdeal.nD Cert.FrontIdeal.τ).loc Cert.FrontIdeal.main_v0_4)) (v5 : (c : Dev Cert.FrontIdeal.nD) → Buf (Elt Ideal) ((c.tc : Thread Cert.FrontIdeal.nD Cert.FrontIdeal.τ).loc Cert.FrontIdeal.main_v0_5)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v0_0) = v0 c
          ∧ r.2.mem ((c.tc : Thread Cert.FrontIdeal.nD Cert.FrontIdeal.τ).loc Cert.FrontIdeal.main_v0_1) = v1 c
          ∧ r.2.mem ((c.tc : Thread Cert.FrontIdeal.nD Cert.FrontIdeal.τ).loc Cert.FrontIdeal.main_v0_2) = v2 c
          ∧ r.2.mem ((c.tc : Thread Cert.FrontIdeal.nD Cert.FrontIdeal.τ).loc Cert.FrontIdeal.main_v0_3) = v3 c
          ∧ r.2.mem ((c.tc : Thread Cert.FrontIdeal.nD Cert.FrontIdeal.τ).loc Cert.FrontIdeal.main_v0_4) = v4 c
          ∧ r.2.mem ((c.tc : Thread Cert.FrontIdeal.nD Cert.FrontIdeal.τ).loc Cert.FrontIdeal.main_v0_5) = v5 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v0_0) = v0 c
          ∧ r.2.mem ((c.tc : Thread Cert.FrontRefIdeal.nD Cert.FrontRefIdeal.τ).loc Cert.FrontRefIdeal.main_v0_1) = v1 c
          ∧ r.2.mem ((c.tc : Thread Cert.FrontRefIdeal.nD Cert.FrontRefIdeal.τ).loc Cert.FrontRefIdeal.main_v0_2) = v2 c
          ∧ r.2.mem ((c.tc : Thread Cert.FrontRefIdeal.nD Cert.FrontRefIdeal.τ).loc Cert.FrontRefIdeal.main_v0_3) = v3 c
          ∧ r.2.mem ((c.tc : Thread Cert.FrontRefIdeal.nD Cert.FrontRefIdeal.τ).loc Cert.FrontRefIdeal.main_v0_4) = v4 c
          ∧ r.2.mem ((c.tc : Thread Cert.FrontRefIdeal.nD Cert.FrontRefIdeal.τ).loc Cert.FrontRefIdeal.main_v0_5) = v5 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3)
          ∧ r.2.mem ((c.tc : Thread Cert.FrontRefIdeal.nD Cert.FrontRefIdeal.τ).loc Cert.FrontRefIdeal.main_arg4) = m' ((c.tc : Thread Cert.FrontRefIdeal.nD Cert.FrontRefIdeal.τ).loc Cert.FrontRefIdeal.main_arg4)
          ∧ r.2.mem ((c.tc : Thread Cert.FrontRefIdeal.nD Cert.FrontRefIdeal.τ).loc Cert.FrontRefIdeal.main_arg5) = m' ((c.tc : Thread Cert.FrontRefIdeal.nD Cert.FrontRefIdeal.τ).loc Cert.FrontRefIdeal.main_arg5))

def preserves_Main_MainIdeal : Prop :=
  True

def algebraic_MainIdeal_MainRefIdeal [hMainIdeal : Cert.MainIdeal.Facts] [hMainRefIdeal : Cert.MainRefIdeal.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.MainRefIdeal.nD Cert.MainRefIdeal.τ Cert.MainRefIdeal.sig) → Buf (Elt Ideal) ℓ) (g' : Dev Cert.MainRefIdeal.nD → PrngReg), Pre_MainIdeal m →
    (∀ c : Dev Cert.MainIdeal.nD,
      m' ((c.tc : Thread Cert.MainRefIdeal.nD Cert.MainRefIdeal.τ).loc Cert.MainRefIdeal.main_arg0) = m ((c.tc : Thread Cert.MainIdeal.nD Cert.MainIdeal.τ).loc Cert.MainIdeal.main_arg0)
      ∧ m' ((c.tc : Thread Cert.MainRefIdeal.nD Cert.MainRefIdeal.τ).loc Cert.MainRefIdeal.main_arg1) = m ((c.tc : Thread Cert.MainIdeal.nD Cert.MainIdeal.τ).loc Cert.MainIdeal.main_arg1)
      ∧ m' ((c.tc : Thread Cert.MainRefIdeal.nD Cert.MainRefIdeal.τ).loc Cert.MainRefIdeal.main_arg2) = m ((c.tc : Thread Cert.MainIdeal.nD Cert.MainIdeal.τ).loc Cert.MainIdeal.main_arg2)
      ∧ m' ((c.tc : Thread Cert.MainRefIdeal.nD Cert.MainRefIdeal.τ).loc Cert.MainRefIdeal.main_arg3) = m ((c.tc : Thread Cert.MainIdeal.nD Cert.MainIdeal.τ).loc Cert.MainIdeal.main_arg3)
      ∧ m' ((c.tc : Thread Cert.MainRefIdeal.nD Cert.MainRefIdeal.τ).loc Cert.MainRefIdeal.main_arg4) = m ((c.tc : Thread Cert.MainIdeal.nD Cert.MainIdeal.τ).loc Cert.MainIdeal.main_arg4)
      ∧ m' ((c.tc : Thread Cert.MainRefIdeal.nD Cert.MainRefIdeal.τ).loc Cert.MainRefIdeal.main_arg5) = m ((c.tc : Thread Cert.MainIdeal.nD Cert.MainIdeal.τ).loc Cert.MainIdeal.main_arg5)
      ∧ m' ((c.tc : Thread Cert.MainRefIdeal.nD Cert.MainRefIdeal.τ).loc Cert.MainRefIdeal.main_arg6) = m ((c.tc : Thread Cert.MainIdeal.nD Cert.MainIdeal.τ).loc Cert.MainIdeal.main_arg6)
      ∧ m' ((c.tc : Thread Cert.MainRefIdeal.nD Cert.MainRefIdeal.τ).loc Cert.MainRefIdeal.main_arg7) = m ((c.tc : Thread Cert.MainIdeal.nD Cert.MainIdeal.τ).loc Cert.MainIdeal.main_arg7)) →
    ∃ (v0 : (c : Dev Cert.MainIdeal.nD) → Buf (Elt Ideal) ((c.tc : Thread Cert.MainIdeal.nD Cert.MainIdeal.τ).loc Cert.MainIdeal.main_v0)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v0) = v0 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
          ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
          ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
          ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
          ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
          ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
          ∧ r.2.mem ((c.tc : Thread Cert.MainIdeal.nD Cert.MainIdeal.τ).loc Cert.MainIdeal.main_arg7) = m ((c.tc : Thread Cert.MainIdeal.nD Cert.MainIdeal.τ).loc Cert.MainIdeal.main_arg7))
      ∧ θ_run (Cert.MainRefIdeal.defs (F := Ideal)) (onTc (τ := Cert.MainRefIdeal.τ) (Cert.MainRefIdeal.main (F := Ideal))) ⟨m', fun _ => 0, g'⟩ (fun r => ∀ c : Dev Cert.MainRefIdeal.nD,
          r.2.mem ((c.tc : Thread Cert.MainRefIdeal.nD Cert.MainRefIdeal.τ).loc Cert.MainRefIdeal.main_v0) = v0 c
          ∧ r.2.mem ((c.tc : Thread Cert.MainRefIdeal.nD Cert.MainRefIdeal.τ).loc Cert.MainRefIdeal.main_arg0) = m' ((c.tc : Thread Cert.MainRefIdeal.nD Cert.MainRefIdeal.τ).loc Cert.MainRefIdeal.main_arg0)
          ∧ r.2.mem ((c.tc : Thread Cert.MainRefIdeal.nD Cert.MainRefIdeal.τ).loc Cert.MainRefIdeal.main_arg1) = m' ((c.tc : Thread Cert.MainRefIdeal.nD Cert.MainRefIdeal.τ).loc Cert.MainRefIdeal.main_arg1)
          ∧ r.2.mem ((c.tc : Thread Cert.MainRefIdeal.nD Cert.MainRefIdeal.τ).loc Cert.MainRefIdeal.main_arg2) = m' ((c.tc : Thread Cert.MainRefIdeal.nD Cert.MainRefIdeal.τ).loc Cert.MainRefIdeal.main_arg2)
          ∧ r.2.mem ((c.tc : Thread Cert.MainRefIdeal.nD Cert.MainRefIdeal.τ).loc Cert.MainRefIdeal.main_arg3) = m' ((c.tc : Thread Cert.MainRefIdeal.nD Cert.MainRefIdeal.τ).loc Cert.MainRefIdeal.main_arg3)
          ∧ r.2.mem ((c.tc : Thread Cert.MainRefIdeal.nD Cert.MainRefIdeal.τ).loc Cert.MainRefIdeal.main_arg4) = m' ((c.tc : Thread Cert.MainRefIdeal.nD Cert.MainRefIdeal.τ).loc Cert.MainRefIdeal.main_arg4)
          ∧ r.2.mem ((c.tc : Thread Cert.MainRefIdeal.nD Cert.MainRefIdeal.τ).loc Cert.MainRefIdeal.main_arg5) = m' ((c.tc : Thread Cert.MainRefIdeal.nD Cert.MainRefIdeal.τ).loc Cert.MainRefIdeal.main_arg5)
          ∧ r.2.mem ((c.tc : Thread Cert.MainRefIdeal.nD Cert.MainRefIdeal.τ).loc Cert.MainRefIdeal.main_arg6) = m' ((c.tc : Thread Cert.MainRefIdeal.nD Cert.MainRefIdeal.τ).loc Cert.MainRefIdeal.main_arg6)
          ∧ r.2.mem ((c.tc : Thread Cert.MainRefIdeal.nD Cert.MainRefIdeal.τ).loc Cert.MainRefIdeal.main_arg7) = m' ((c.tc : Thread Cert.MainRefIdeal.nD Cert.MainRefIdeal.τ).loc Cert.MainRefIdeal.main_arg7))

def Claim : Prop :=
  ∃ (hFront : Cert.Front.Facts) (hFrontIdeal : Cert.FrontIdeal.Facts) (hFrontRefIdeal : Cert.FrontRefIdeal.Facts) (hMain : Cert.Main.Facts) (hMainIdeal : Cert.MainIdeal.Facts) (hMainRefIdeal : Cert.MainRefIdeal.Facts),
    quiescent_Front (hFront := hFront)
    ∧ quiescent_FrontIdeal (hFrontIdeal := hFrontIdeal)
    ∧ quiescent_FrontRefIdeal (hFrontRefIdeal := hFrontRefIdeal)
    ∧ quiescent_Main (hMain := hMain)
    ∧ quiescent_MainIdeal (hMainIdeal := hMainIdeal)
    ∧ quiescent_MainRefIdeal (hMainRefIdeal := hMainRefIdeal)
    ∧ preserves_Front_FrontIdeal
    ∧ algebraic_FrontIdeal_FrontRefIdeal (hFrontIdeal := hFrontIdeal) (hFrontRefIdeal := hFrontRefIdeal)
    ∧ preserves_Main_MainIdeal
    ∧ algebraic_MainIdeal_MainRefIdeal (hMainIdeal := hMainIdeal) (hMainRefIdeal := hMainRefIdeal)
-- ==== Front.lean ====
abbrev S4096x1 : Shape := ⟨2, ![4096, 1]⟩
abbrev S4096x7168 : Shape := ⟨2, ![4096, 7168]⟩
abbrev S128x7168 : Shape := ⟨2, ![128, 7168]⟩
abbrev S1x128 : Shape := ⟨2, ![1, 128]⟩
abbrev S33x128x128 : Shape := ⟨3, ![33, 128, 128]⟩
abbrev S33x128 : Shape := ⟨2, ![33, 128]⟩
abbrev S4096x128 : Shape := ⟨2, ![4096, 128]⟩
abbrev S256x1 : Shape := ⟨2, ![256, 1]⟩
abbrev S256x7168 : Shape := ⟨2, ![256, 7168]⟩
abbrev S256x128 : Shape := ⟨2, ![256, 128]⟩
abbrev S9x256x256 : Shape := ⟨3, ![9, 256, 256]⟩
abbrev S1x128x128 : Shape := ⟨3, ![1, 128, 128]⟩
abbrev S128x128 : Shape := ⟨2, ![128, 128]⟩
abbrev S256 : Shape := ⟨1, ![256]⟩
abbrev S256x2304 : Shape := ⟨2, ![256, 2304]⟩
abbrev S2304x256 : Shape := ⟨2, ![2304, 256]⟩
abbrev S256x256 : Shape := ⟨2, ![256, 256]⟩

abbrev nBuf : Space → Nat
  | .hbm => 12
  | .vmem => 21
  | .smem => 0
  | _ => 0

abbrev bufTy : (tb : Table) → Fin (tcTables nBuf tb) → BufTy
  | .hbm, ⟨0, _⟩ => ⟨S4096x1, .i32⟩
  | .hbm, ⟨1, _⟩ => ⟨S4096x7168, .bf16⟩
  | .hbm, ⟨2, _⟩ => ⟨S128x7168, .fp8e4m3⟩
  | .hbm, ⟨3, _⟩ => ⟨S1x128, .f32⟩
  | .hbm, ⟨4, _⟩ => ⟨S33x128x128, .i8⟩
  | .hbm, ⟨5, _⟩ => ⟨S33x128, .f32⟩
  | .hbm, ⟨6, _⟩ => ⟨S4096x7168, .fp8e4m3⟩
  | .hbm, ⟨7, _⟩ => ⟨S4096x128, .f32⟩
  | .hbm, ⟨8, _⟩ => ⟨S4096x128, .i8⟩
  | .hbm, ⟨9, _⟩ => ⟨S4096x128, .f32⟩
  | .hbm, ⟨10, _⟩ => ⟨S4096x128, .fp8e4m3⟩
  | .hbm, ⟨11, _⟩ => ⟨S4096x128, .f32⟩
  | .local _ .vmem, ⟨0, _⟩ => ⟨S256x1, .i32⟩
  | .local _ .vmem, ⟨1, _⟩ => ⟨S256x1, .i32⟩
  | .local _ .vmem, ⟨2, _⟩ => ⟨S256x7168, .bf16⟩
  | .local _ .vmem, ⟨3, _⟩ => ⟨S256x7168, .bf16⟩
  | .local _ .vmem, ⟨4, _⟩ => ⟨S128x7168, .fp8e4m3⟩
  | .local _ .vmem, ⟨5, _⟩ => ⟨S1x128, .f32⟩
  | .local _ .vmem, ⟨6, _⟩ => ⟨S33x128x128, .i8⟩
  | .local _ .vmem, ⟨7, _⟩ => ⟨S33x128, .f32⟩
  | .local _ .vmem, ⟨8, _⟩ => ⟨S256x7168, .fp8e4m3⟩
  | .local _ .vmem, ⟨9, _⟩ => ⟨S256x7168, .fp8e4m3⟩
  | .local _ .vmem, ⟨10, _⟩ => ⟨S256x128, .f32⟩
  | .local _ .vmem, ⟨11, _⟩ => ⟨S256x128, .f32⟩
  | .local _ .vmem, ⟨12, _⟩ => ⟨S256x128, .i8⟩
  | .local _ .vmem, ⟨13, _⟩ => ⟨S256x128, .i8⟩
  | .local _ .vmem, ⟨14, _⟩ => ⟨S256x128, .f32⟩
  | .local _ .vmem, ⟨15, _⟩ => ⟨S256x128, .f32⟩
  | .local _ .vmem, ⟨16, _⟩ => ⟨S256x128, .fp8e4m3⟩
  | .local _ .vmem, ⟨17, _⟩ => ⟨S256x128, .fp8e4m3⟩
  | .local _ .vmem, ⟨18, _⟩ => ⟨S256x128, .f32⟩
  | .local _ .vmem, ⟨19, _⟩ => ⟨S256x128, .f32⟩
  | .local _ .vmem, ⟨20, _⟩ => ⟨S9x256x256, .bf16⟩
  | _, _ => ⟨S4096x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S33x128x128 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S33x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FrontRefIdeal.lean ====
abbrev S4096x1 : Shape := ⟨2, ![4096, 1]⟩
abbrev S4096x7168 : Shape := ⟨2, ![4096, 7168]⟩
abbrev S128x7168 : Shape := ⟨2, ![128, 7168]⟩
abbrev S1x128 : Shape := ⟨2, ![1, 128]⟩
abbrev S33x128x128 : Shape := ⟨3, ![33, 128, 128]⟩
abbrev S33x128 : Shape := ⟨2, ![33, 128]⟩
abbrev S4096x128 : Shape := ⟨2, ![4096, 128]⟩
abbrev S4096 : Shape := ⟨1, ![4096]⟩
abbrev S1x128x128 : Shape := ⟨3, ![1, 128, 128]⟩
abbrev S128x128 : Shape := ⟨2, ![128, 128]⟩

abbrev nBuf : Space → Nat
  | .hbm => 12
  | .vmem => 12
  | .smem => 0
  | _ => 0

abbrev bufTy : (tb : Table) → Fin (tcTables nBuf tb) → BufTy
  | .hbm, ⟨0, _⟩ => ⟨S4096x1, .i32⟩
  | .hbm, ⟨1, _⟩ => ⟨S4096x7168, .bf16⟩
  | .hbm, ⟨2, _⟩ => ⟨S128x7168, .fp8e4m3⟩
  | .hbm, ⟨3, _⟩ => ⟨S1x128, .f32⟩
  | .hbm, ⟨4, _⟩ => ⟨S33x128x128, .i8⟩
  | .hbm, ⟨5, _⟩ => ⟨S33x128, .f32⟩
  | .hbm, ⟨6, _⟩ => ⟨S4096x7168, .fp8e4m3⟩
  | .hbm, ⟨7, _⟩ => ⟨S4096x128, .f32⟩
  | .hbm, ⟨8, _⟩ => ⟨S4096x128, .i8⟩
  | .hbm, ⟨9, _⟩ => ⟨S4096x128, .f32⟩
  | .hbm, ⟨10, _⟩ => ⟨S4096x128, .fp8e4m3⟩
  | .hbm, ⟨11, _⟩ => ⟨S4096x128, .f32⟩
  | .local _ .vmem, ⟨0, _⟩ => ⟨S4096x1, .i32⟩
  | .local _ .vmem, ⟨1, _⟩ => ⟨S4096x7168, .bf16⟩
  | .local _ .vmem, ⟨2, _⟩ => ⟨S128x7168, .fp8e4m3⟩
  | .local _ .vmem, ⟨3, _⟩ => ⟨S1x128, .f32⟩
  | .local _ .vmem, ⟨4, _⟩ => ⟨S33x128x128, .i8⟩
  | .local _ .vmem, ⟨5, _⟩ => ⟨S33x128, .f32⟩
  | .local _ .vmem, ⟨6, _⟩ => ⟨S4096x7168, .fp8e4m3⟩
  | .local _ .vmem, ⟨7, _⟩ => ⟨S4096x128, .f32⟩
  | .local _ .vmem, ⟨8, _⟩ => ⟨S4096x128, .i8⟩
  | .local _ .vmem, ⟨9, _⟩ => ⟨S4096x128, .f32⟩
  | .local _ .vmem, ⟨10, _⟩ => ⟨S4096x128, .fp8e4m3⟩
  | .local _ .vmem, ⟨11, _⟩ => ⟨S4096x128, .f32⟩
  | _, _ => ⟨S4096x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S4096x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S33x128x128 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S33x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x128 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4096x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Main.lean ====
abbrev S4096x7168 : Shape := ⟨2, ![4096, 7168]⟩
abbrev S7168x18432 : Shape := ⟨2, ![7168, 18432]⟩
abbrev S4096x128 : Shape := ⟨2, ![4096, 128]⟩
abbrev S128x18432 : Shape := ⟨2, ![128, 18432]⟩
abbrev S1x18432 : Shape := ⟨2, ![1, 18432]⟩
abbrev S4096x18432 : Shape := ⟨2, ![4096, 18432]⟩
abbrev S7168x512 : Shape := ⟨2, ![7168, 512]⟩
abbrev S128x512 : Shape := ⟨2, ![128, 512]⟩
abbrev S1x512 : Shape := ⟨2, ![1, 512]⟩
abbrev S4096x512 : Shape := ⟨2, ![4096, 512]⟩
abbrev S512x7168 : Shape := ⟨2, ![512, 7168]⟩
abbrev S512x512 : Shape := ⟨2, ![512, 512]⟩
abbrev S512x128 : Shape := ⟨2, ![512, 128]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x7168, .fp8e4m3⟩
  | .hbm, ⟨1, _⟩ => ⟨S7168x18432, .fp8e4m3⟩
  | .hbm, ⟨2, _⟩ => ⟨S4096x128, .fp8e4m3⟩
  | .hbm, ⟨3, _⟩ => ⟨S128x18432, .fp8e4m3⟩
  | .hbm, ⟨4, _⟩ => ⟨S4096x128, .f32⟩
  | .hbm, ⟨5, _⟩ => ⟨S4096x128, .f32⟩
  | .hbm, ⟨6, _⟩ => ⟨S1x18432, .f32⟩
  | .hbm, ⟨7, _⟩ => ⟨S1x18432, .f32⟩
  | .hbm, ⟨8, _⟩ => ⟨S4096x18432, .bf16⟩
  | .local _ .vmem, ⟨0, _⟩ => ⟨S4096x7168, .fp8e4m3⟩
  | .local _ .vmem, ⟨1, _⟩ => ⟨S7168x512, .fp8e4m3⟩
  | .local _ .vmem, ⟨2, _⟩ => ⟨S7168x512, .fp8e4m3⟩
  | .local _ .vmem, ⟨3, _⟩ => ⟨S4096x128, .fp8e4m3⟩
  | .local _ .vmem, ⟨4, _⟩ => ⟨S128x512, .fp8e4m3⟩
  | .local _ .vmem, ⟨5, _⟩ => ⟨S128x512, .fp8e4m3⟩
  | .local _ .vmem, ⟨6, _⟩ => ⟨S4096x128, .f32⟩
  | .local _ .vmem, ⟨7, _⟩ => ⟨S4096x128, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S4096x512, .bf16⟩
  | .local _ .vmem, ⟨13, _⟩ => ⟨S4096x512, .bf16⟩
  | _, _ => ⟨S4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7168x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MainRefIdeal.lean ====
abbrev S4096x7168 : Shape := ⟨2, ![4096, 7168]⟩
abbrev S7168x18432 : Shape := ⟨2, ![7168, 18432]⟩
abbrev S4096x128 : Shape := ⟨2, ![4096, 128]⟩
abbrev S128x18432 : Shape := ⟨2, ![128, 18432]⟩
abbrev S1x18432 : Shape := ⟨2, ![1, 18432]⟩
abbrev S4096x18432 : Shape := ⟨2, ![4096, 18432]⟩
abbrev S4096x1 : Shape := ⟨2, ![4096, 1]⟩

abbrev nBuf : Space → Nat
  | .hbm => 9
  | .vmem => 9
  | .smem => 0
  | _ => 0

abbrev bufTy : (tb : Table) → Fin (tcTables nBuf tb) → BufTy
  | .hbm, ⟨0, _⟩ => ⟨S4096x7168, .fp8e4m3⟩
  | .hbm, ⟨1, _⟩ => ⟨S7168x18432, .fp8e4m3⟩
  | .hbm, ⟨2, _⟩ => ⟨S4096x128, .fp8e4m3⟩
  | .hbm, ⟨3, _⟩ => ⟨S128x18432, .fp8e4m3⟩
  | .hbm, ⟨4, _⟩ => ⟨S4096x128, .f32⟩
  | .hbm, ⟨5, _⟩ => ⟨S4096x128, .f32⟩
  | .hbm, ⟨6, _⟩ => ⟨S1x18432, .f32⟩
  | .hbm, ⟨7, _⟩ => ⟨S1x18432, .f32⟩
  | .hbm, ⟨8, _⟩ => ⟨S4096x18432, .bf16⟩
  | .local _ .vmem, ⟨0, _⟩ => ⟨S4096x7168, .fp8e4m3⟩
  | .local _ .vmem, ⟨1, _⟩ => ⟨S7168x18432, .fp8e4m3⟩
  | .local _ .vmem, ⟨2, _⟩ => ⟨S4096x128, .fp8e4m3⟩
  | .local _ .vmem, ⟨3, _⟩ => ⟨S128x18432, .fp8e4m3⟩
  | .local _ .vmem, ⟨4, _⟩ => ⟨S4096x128, .f32⟩
  | .local _ .vmem, ⟨5, _⟩ => ⟨S4096x128, .f32⟩
  | .local _ .vmem, ⟨6, _⟩ => ⟨S1x18432, .f32⟩
  | .local _ .vmem, ⟨7, _⟩ => ⟨S1x18432, .f32⟩
  | .local _ .vmem, ⟨8, _⟩ => ⟨S4096x18432, .bf16⟩
  | _, _ => ⟨S4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4096x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x18432 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x18432 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x18432 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x18432 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x18432 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.FrontExponent.lean ====
/-
  The power-of-two scale of one row, over the extended reals. The kernel finds the exponent field of a number by trying
  its eight bits from the top and builds the power of two from its bit pattern; the reference takes the floor of a
  logarithm and an exponential. `exponent_eq` says that the two give the same scale and the same inverse scale for
  every extended real.
-/
module

public import Idealize.ShloMosaic.Lib.Pipeline.ValueKit
public import Idealize.ShloMosaic.Lib.Pointwise

@[expose] public section

noncomputable section

open Idealize.ShloMosaic

namespace Cert.FrontValue

/-! ## The two spellings -/

/-- The number whose bit pattern is the word `f` moved up to the exponent field. -/
def power (f : BitVec 32) : EReal := Ideal.ofBits .f32 (IntOp.shli .vector f 23#32)

/-- One step of the search: the bit `b` is kept if the power of two with it is at most `m`. -/
def kstep (m : EReal) (f b : BitVec 32) : BitVec 32 :=
  Scalar.select (Ideal.cmp .oge m (power (IntOp.addi f b))) (IntOp.addi f b) f

/-- The exponent field of `m`, from its eight bits. -/
def kfield (m : EReal) : BitVec 32 :=
  kstep m (kstep m (kstep m (kstep m (kstep m (kstep m (kstep m (kstep m 0#32 128#32) 64#32) 32#32) 16#32) 8#32) 4#32) 2#32) 1#32

/-- The kernel's exponent of a field: 0 at the two ends, else the field less 126. -/
def kunbias (f : BitVec 32) : BitVec 32 :=
  Scalar.select (IntOp.ori (IntOp.cmpi .eq f 0#32) (IntOp.cmpi .eq f 255#32)) 0#32 (IntOp.subi f 126#32)

/-- The kernel's power of two of an exponent. -/
def kpow (e : BitVec 32) : EReal :=
  power (IntOp.minsi 255#32 (IntOp.maxsi 0#32 (IntOp.addi e 127#32)))

/-- The number a greatest magnitude is multiplied by, close to 1/448. -/
def recip : EReal := Ideal.ofBits .f32 0x3B124925#32

/-- The kernel's exponent of a row of greatest magnitude `a`. -/
def kexp (a : EReal) : BitVec 32 := kunbias (kfield (a * recip))

/-- The reference's exponent of a row of greatest magnitude `a`. -/
def rexp (a : EReal) : EReal :=
  Scalar.select (Ideal.cmp .oeq a (Ideal.ofBits .f32 0x00000000#32)) (Ideal.ofBits .f32 0x00000000#32)
    (Scalar.select
      (IntOp.ori (Ideal.cmp .olt (a * recip) (Ideal.ofBits .f32 0x00800000#32))
        (Ideal.cmp .oeq (a * recip) (Ideal.ofBits .f32 0x7F800000#32)))
      (Ideal.ofBits .f32 0x00000000#32)
      (Ideal.liftRound Int.floor (Ideal.div (Ideal.log (a * recip)) (Ideal.log (Ideal.ofBits .f32 0x40000000#32)))
        + Ideal.ofBits .f32 0x3F800000#32))

/-- The reference's power of two of an exponent. -/
def rpow (e : EReal) : EReal :=
  Scalar.select (Ideal.cmp .ogt e (Ideal.ofBits .f32 0x42FE0000#32)) (Ideal.ofBits .f32 0x7F800000#32)
    (Scalar.select (Ideal.cmp .olt e (Ideal.ofBits .f32 0xC2FC0000#32)) (Ideal.ofBits .f32 0x00000000#32) (Ideal.exp2 e))

/-! ## Constants -/

/-- The f32 word of 0. -/
theorem c_zero : Ideal.ofBits .f32 0x00000000#32 = 0 := by simp [Ideal.ofBits, Ideal.ieee]
/-- The f32 word of 1. -/
theorem c_one : Ideal.ofBits .f32 0x3F800000#32 = ((1 : ℝ) : EReal) := by
  simp [Ideal.ofBits, Ideal.ieee, -EReal.coe_mul]; norm_num
/-- The f32 word of 2. -/
theorem c_two : Ideal.ofBits .f32 0x40000000#32 = ((2 : ℝ) : EReal) := by
  simp [Ideal.ofBits, Ideal.ieee, -EReal.coe_mul]; norm_num
/-- The f32 word of infinity. -/
theorem c_inf : Ideal.ofBits .f32 0x7F800000#32 = ⊤ := by simp [Ideal.ofBits, Ideal.ieee]
/-- The f32 word of 127. -/
theorem c_127 : Ideal.ofBits .f32 0x42FE0000#32 = ((127 : ℝ) : EReal) := by
  simp [Ideal.ofBits, Ideal.ieee, -EReal.coe_mul]; norm_num
/-- The f32 word of -126. -/
theorem c_m126 : Ideal.ofBits .f32 0xC2FC0000#32 = ((-126 : ℝ) : EReal) := by
  simp [Ideal.ofBits, Ideal.ieee, -EReal.coe_mul, -EReal.coe_neg]; norm_num

/-! ## The powers of two -/

/-- The three fields of a word moved up by 23. -/
theorem fields (n : Nat) (h : n < 256) : (BitVec.ofNat 32 n <<< 23).extractLsb' 31 1 = 0#1
    ∧ ((BitVec.ofNat 32 n <<< 23).extractLsb' 23 8).toNat = n ∧ ((BitVec.ofNat 32 n <<< 23).extractLsb' 0 23).toNat = 0 := by
  have key : ∀ k : Fin 256, (BitVec.ofNat 32 k.val <<< 23).extractLsb' 31 1 = 0#1
    ∧ ((BitVec.ofNat 32 k.val <<< 23).extractLsb' 23 8).toNat = k.val
    ∧ ((BitVec.ofNat 32 k.val <<< 23).extractLsb' 0 23).toNat = 0 := by decide +kernel
  exact key ⟨n, h⟩

/-- The power of a field, by the fields of its bit pattern. -/
theorem power_eq (f : BitVec 32) : power f = Ideal.ieee 8 23 (f <<< 23) := by
  unfold power IntOp.shli
  rw [if_pos (by decide)]
  rfl

/-- The power of the field `n`: 0 at 0, infinity at 255, and 2 to the `n - 127` between. -/
theorem power_ofNat (n : Nat) (h : n < 256) : power (BitVec.ofNat 32 n)
    = if n = 255 then ⊤ else if n = 0 then 0 else (((2 : ℝ) ^ ((n : ℤ) - 127) : ℝ) : EReal) := by
  obtain ⟨h1, h2, h3⟩ := fields n h
  rw [power_eq]
  generalize (BitVec.ofNat 32 n <<< 23) = w at h1 h2 h3 ⊢
  have h0 : (w.extractLsb' (8 + 23) 1 == 1#1) = false := by rw [h1]; rfl
  unfold Ideal.ieee
  simp only [h2, h3, h0]
  by_cases ha : n = 255
  · rw [if_pos ha, if_pos (by rw [ha]; norm_num)]; simp
  rw [if_neg ha, if_neg (by norm_num; omega)]
  by_cases hb : n = 0
  · rw [if_pos hb, if_pos hb]; simp
  rw [if_neg hb, if_neg hb]
  congr 1
  have e : ((n : ℤ) - ((2 : ℤ) ^ (8 - 1) - 1) - (23 : ℕ)) = ((n : ℤ) - 127) - 23 := by norm_num
  rw [e, zpow_sub₀ (by norm_num : (2 : ℝ) ≠ 0)]
  norm_num
  ring

/-! ## The search -/

/-- One step of the search, on naturals. -/
theorem kstep_ofNat (m : EReal) (f b : Nat) :
    kstep m (BitVec.ofNat 32 f) (BitVec.ofNat 32 b)
      = if power (BitVec.ofNat 32 (f + b)) ≤ m then BitVec.ofNat 32 (f + b) else BitVec.ofNat 32 f := by
  unfold kstep
  have : IntOp.addi (BitVec.ofNat 32 f) (BitVec.ofNat 32 b) = BitVec.ofNat 32 (f + b) := by
    show _ + _ = _
    rw [BitVec.ofNat_add]
  rw [this]
  unfold Scalar.select Ideal.cmp
  by_cases h : power (BitVec.ofNat 32 (f + b)) ≤ m <;> simp [h]

/-- What the search keeps true of the field `f` when bits of at most `w` are still to come: the power of two of `f` is at
    most `m` unless `f` is 0, and `m` is below that of `f + w` unless that passes the top field. -/
def Inv (m : EReal) (w f : Nat) : Prop :=
  (f = 0 ∨ power (BitVec.ofNat 32 f) ≤ m) ∧ (f + w = 256 ∨ m < power (BitVec.ofNat 32 (f + w))) ∧ f + w ≤ 256

/-- A step of the search with the bit `b` halves the interval that holds the field. -/
theorem inv_step (m : EReal) (b f : Nat) (B F : BitVec 32) (hB : B = BitVec.ofNat 32 b) (hF : F = BitVec.ofNat 32 f)
    (h : Inv m (b + b) f) : ∃ g, kstep m F B = BitVec.ofNat 32 g ∧ Inv m b g := by
  subst hB hF
  rw [kstep_ofNat]
  obtain ⟨h1, h2, h3⟩ := h
  by_cases hc : power (BitVec.ofNat 32 (f + b)) ≤ m
  · refine ⟨f + b, by rw [if_pos hc], .inr hc, ?_, by omega⟩
    rw [Nat.add_assoc]; exact h2
  · exact ⟨f, by rw [if_neg hc], h1, .inr (not_le.mp hc), by omega⟩

/-- The field found: the greatest whose power of two is at most `m`. -/
theorem kfield_spec (m : EReal) : ∃ n, kfield m = BitVec.ofNat 32 n ∧ Inv m 1 n := by
  obtain ⟨a, ha, ia⟩ := inv_step m 128 0 128#32 0#32 rfl rfl ⟨.inl rfl, .inl rfl, by norm_num⟩
  obtain ⟨b, hb, ib⟩ := inv_step m 64 a 64#32 _ rfl ha ia
  obtain ⟨c, hc, ic⟩ := inv_step m 32 b 32#32 _ rfl hb ib
  obtain ⟨d, hd, id⟩ := inv_step m 16 c 16#32 _ rfl hc ic
  obtain ⟨e, he, ie⟩ := inv_step m 8 d 8#32 _ rfl hd id
  obtain ⟨f, hf, i_f⟩ := inv_step m 4 e 4#32 _ rfl he ie
  obtain ⟨g, hg, ig⟩ := inv_step m 2 f 2#32 _ rfl hf i_f
  exact inv_step m 1 g 1#32 _ rfl hg ig

/-! ## The exponents -/

/-- The kernel's scale and inverse scale, of the field `n`. -/
theorem kpow_field (n : Nat) (h : n < 256) :
    kpow (kunbias (BitVec.ofNat 32 n)) = power (BitVec.ofNat 32 (if n = 0 ∨ n = 255 then 127 else n + 1))
    ∧ kpow (IntOp.subi 0#32 (kunbias (BitVec.ofNat 32 n)))
      = power (BitVec.ofNat 32 (if n = 0 ∨ n = 255 then 127 else 253 - n)) := by
  have key : ∀ k : Fin 256,
      IntOp.minsi 255#32 (IntOp.maxsi 0#32 (IntOp.addi (kunbias (BitVec.ofNat 32 k.val)) 127#32))
        = BitVec.ofNat 32 (if k.val = 0 ∨ k.val = 255 then 127 else k.val + 1)
      ∧ IntOp.minsi 255#32 (IntOp.maxsi 0#32 (IntOp.addi (IntOp.subi 0#32 (kunbias (BitVec.ofNat 32 k.val))) 127#32))
        = BitVec.ofNat 32 (if k.val = 0 ∨ k.val = 255 then 127 else 253 - k.val) := by decide +kernel
  obtain ⟨h1, h2⟩ := key ⟨n, h⟩
  exact ⟨congrArg power h1, congrArg power h2⟩

/-- The reference's scale of the integer exponent `e`. -/
theorem rpow_int (e : ℤ) : rpow (((e : ℝ)) : EReal)
    = if 127 < e then ⊤ else if e < -126 then 0 else (((2 : ℝ) ^ e : ℝ) : EReal) := by
  unfold rpow
  rw [c_127, c_m126, c_inf, c_zero]
  unfold Scalar.select Ideal.cmp
  have h1 : ((127 : ℝ) : EReal) < ((e : ℝ) : EReal) ↔ 127 < e := by
    rw [EReal.coe_lt_coe_iff]; exact_mod_cast Iff.rfl
  have h2 : ((e : ℝ) : EReal) < ((-126 : ℝ) : EReal) ↔ e < -126 := by
    rw [EReal.coe_lt_coe_iff]; exact_mod_cast Iff.rfl
  have h3 : Ideal.exp2 ((e : ℝ) : EReal) = (((2 : ℝ) ^ e : ℝ) : EReal) := by
    rw [Ideal.exp2_coe]; congr 1; exact Real.rpow_intCast 2 e
  simp only [h1, h2, h3]
  by_cases ha : 127 < e <;> by_cases hb : e < -126 <;> simp [ha, hb]

/-- 0 less a whole number is its negative. -/
theorem neg_int (e : ℤ) : Ideal.ofBits .f32 0x00000000#32 - ((e : ℝ) : EReal) = (((-e : ℤ) : ℝ) : EReal) := by
  rw [c_zero, zero_sub]; push_cast; rfl

/-- Between two neighbouring powers of two the floor of the logarithm is the lower exponent. -/
theorem floor_log (r : ℝ) (k : ℤ) (h1 : (2 : ℝ) ^ k ≤ r) :
    k ≤ ⌊Real.log r / Real.log 2⌋ ∧ (r < (2 : ℝ) ^ (k + 1) → ⌊Real.log r / Real.log 2⌋ = k) := by
  have hr : 0 < r := lt_of_lt_of_le (zpow_pos (by norm_num) k) h1
  have hl : (k : ℝ) ≤ Real.log r / Real.log 2 := by
    rw [le_div_iff₀ (Real.log_pos (by norm_num)), ← Real.log_zpow]
    exact Real.log_le_log (zpow_pos (by norm_num) k) h1
  refine ⟨Int.le_floor.mpr hl, fun h2 => Int.floor_eq_iff.mpr ⟨hl, ?_⟩⟩
  rw [div_lt_iff₀ (Real.log_pos (by norm_num))]
  have : ((k : ℝ) + 1) = ((k + 1 : ℤ) : ℝ) := by push_cast; rfl
  rw [this, ← Real.log_zpow]
  exact Real.log_lt_log hr h2

/-- The reference's exponent where the product is a real number of at least 2⁻¹²⁶. -/
theorem rexp_coe (a : EReal) (r : ℝ) (hm : a * recip = (r : EReal)) (hr : (2 : ℝ) ^ (-126 : ℤ) ≤ r) :
    rexp a = (((⌊Real.log r / Real.log 2⌋ + 1 : ℤ) : ℝ) : EReal) := by
  have hpos : 0 < r := lt_of_lt_of_le (zpow_pos (by norm_num) _) hr
  have ha : a ≠ 0 := by
    rintro rfl
    rw [zero_mul] at hm
    exact absurd (EReal.coe_eq_zero.mp hm.symm) hpos.ne'
  have hc : Ideal.ofBits .f32 0x00800000#32 = (((2 : ℝ) ^ (-126 : ℤ) : ℝ) : EReal) := by
    have := power_ofNat 1 (by norm_num)
    norm_num at this ⊢
    exact this
  unfold rexp
  rw [hm, c_zero, c_inf, c_one, c_two, hc]
  unfold Scalar.select Ideal.cmp
  have h1 : ¬ ((r : EReal) < (((2 : ℝ) ^ (-126 : ℤ) : ℝ) : EReal)) := by
    rw [EReal.coe_lt_coe_iff]; exact not_lt.mpr hr
  have h2 : ¬ ((r : EReal) = ⊤) := EReal.coe_ne_top r
  have h3 : Ideal.log (r : EReal) = ((Real.log r : ℝ) : EReal) := by rw [Ideal.log_coe, if_neg (not_le.mpr hpos)]
  have h4 : Ideal.log ((2 : ℝ) : EReal) = ((Real.log 2 : ℝ) : EReal) := by rw [Ideal.log_coe, if_neg (by norm_num)]
  have h5 : Ideal.div ((Real.log r : ℝ) : EReal) ((Real.log 2 : ℝ) : EReal) = ((Real.log r / Real.log 2 : ℝ) : EReal) := by
    have hl : Real.log 2 ≠ 0 := (Real.log_pos (by norm_num)).ne'
    unfold Ideal.div
    rw [if_neg (by rw [EReal.coe_eq_zero]; exact hl), ← EReal.coe_inv, ← EReal.coe_mul, div_eq_mul_inv]
  simp only [h1, h2, ha, h3, h4, h5]
  rw [Ideal.liftRound_coe, ← EReal.coe_add]
  simp [IntOp.ori]

/-- Below 2⁻¹²⁶, and at ∞, it is 0. -/
theorem rexp_zero (a : EReal) (hm : a * recip < (((2 : ℝ) ^ (-126 : ℤ) : ℝ) : EReal) ∨ a * recip = ⊤) :
    rexp a = (((0 : ℤ) : ℝ) : EReal) := by
  have hc : Ideal.ofBits .f32 0x00800000#32 = (((2 : ℝ) ^ (-126 : ℤ) : ℝ) : EReal) := by
    have := power_ofNat 1 (by norm_num)
    norm_num at this ⊢
    exact this
  unfold rexp
  rw [c_zero, c_inf, hc]
  generalize (((2 : ℝ) ^ (-126 : ℤ) : ℝ) : EReal) = p at hm
  unfold Scalar.select Ideal.cmp
  rcases hm with h | h
  · by_cases ha : a = 0 <;> by_cases hb : a * recip = ⊤ <;> simp [h, ha, hb, IntOp.ori]
  · by_cases ha : a = 0
    · simp [ha]
    · simp only [h]; simp [ha, IntOp.ori]

/-- The reference's scale and inverse scale are the kernel's, for every greatest magnitude. -/
theorem exponent_eq (a : EReal) : kpow (kexp a) = rpow (rexp a)
    ∧ kpow (IntOp.subi 0#32 (kexp a)) = rpow (Ideal.ofBits .f32 0x00000000#32 - rexp a) := by
  obtain ⟨n, hn, h1, h2, h3⟩ := kfield_spec (a * recip)
  unfold kexp
  rw [hn]
  have hlt : n < 256 := by omega
  rw [(kpow_field n hlt).1, (kpow_field n hlt).2]
  by_cases h0 : n = 0
  · have hm := h2.resolve_left (by omega)
    rw [h0, power_ofNat 1 (by norm_num)] at hm
    have hc : n = 0 ∨ n = 255 := .inl h0
    rw [rexp_zero a (.inl (by simpa using hm)), neg_int, rpow_int, rpow_int]
    simp only [hc, if_true]
    rw [power_ofNat 127 (by norm_num)]
    norm_num
  have hp := h1.resolve_left h0
  rw [power_ofNat n hlt] at hp
  by_cases h255 : n = 255
  · rw [if_pos h255, top_le_iff] at hp
    have hc : n = 0 ∨ n = 255 := .inr h255
    rw [rexp_zero a (.inr hp), neg_int, rpow_int, rpow_int]
    simp only [hc, if_true]
    rw [power_ofNat 127 (by norm_num)]
    norm_num
  rw [if_neg h255, if_neg h0] at hp
  have hq := h2.resolve_left (by omega)
  rw [power_ofNat (n + 1) (by omega), if_neg (Nat.succ_ne_zero n)] at hq
  have hreal : ∃ r : ℝ, a * recip = (r : EReal) := by
    have hb : a * recip ≠ ⊥ := by
      intro h; rw [h] at hp; exact absurd (le_bot_iff.mp hp) (EReal.coe_ne_bot _)
    have ht : a * recip ≠ ⊤ := by
      intro h; rw [h] at hq; exact absurd hq (not_lt.mpr le_top)
    exact ⟨_, (EReal.coe_toReal ht hb).symm⟩
  obtain ⟨r, hr⟩ := hreal
  rw [hr, EReal.coe_le_coe_iff] at hp
  obtain ⟨f1, f2⟩ := floor_log r _ hp
  have h126 : (2 : ℝ) ^ (-126 : ℤ) ≤ r := le_trans (zpow_le_zpow_right₀ (by norm_num) (by omega)) hp
  have hc : ¬(n = 0 ∨ n = 255) := by omega
  rw [rexp_coe a r hr h126, neg_int, rpow_int, rpow_int]
  simp only [hc, if_false]
  by_cases h254 : n = 254
  · have h127 : (127 : ℤ) ≤ ⌊Real.log r / Real.log 2⌋ := by rw [h254] at f1; norm_num at f1; exact f1
    generalize ⌊Real.log r / Real.log 2⌋ = k at h127
    rw [h254, power_ofNat 255 (by norm_num), power_ofNat (253 - 254) (by norm_num), if_pos rfl,
      if_pos (show 127 < k + 1 by omega), if_neg (show ¬ 127 < -(k + 1) by omega), if_pos (show -(k + 1) < -126 by omega)]
    exact ⟨rfl, rfl⟩
  · rw [if_neg (show ¬ n + 1 = 255 by omega), hr, EReal.coe_lt_coe_iff] at hq
    have hf := f2 (by have e : ((n : ℤ) - 127 + 1) = ((n + 1 : ℕ) : ℤ) - 127 := by push_cast; ring
                      rw [e]; exact hq)
    rw [hf, power_ofNat (n + 1) (by omega), power_ofNat (253 - n) (by omega), if_neg (show ¬ n + 1 = 255 by omega),
      if_neg (show ¬ n + 1 = 0 by omega), if_neg (show ¬ 127 < (n : ℤ) - 127 + 1 by omega),
      if_neg (show ¬ (n : ℤ) - 127 + 1 < -126 by omega), if_neg (show ¬ 253 - n = 255 by omega),
      if_neg (show ¬ 127 < -((n : ℤ) - 127 + 1) by omega)]
    refine ⟨?_, ?_⟩
    · congr 2; push_cast; ring
    · by_cases h253 : n = 253
      · rw [if_pos (show 253 - n = 0 by omega), if_pos (show -((n : ℤ) - 127 + 1) < -126 by omega)]
      · rw [if_neg (show ¬ 253 - n = 0 by omega), if_neg (show ¬ -((n : ℤ) - 127 + 1) < -126 by omega)]
        congr 2
        have : n ≤ 253 := by omega
        push_cast [Nat.cast_sub this]; ring

end Cert.FrontValue
-- ==== Proof.FrontSpec.lean ====
/-
  What the front call computes on one row of the input, over the extended reals: the row's codes and scale, the low-rank
  product's codes and scale, and the codes and scale of the tenant's block product. The kernel and the reference are
  both shown to compute these functions of the row; the facts here are about one row only.
-/
module

public import proofs.«01_k».proof.Proof.FrontExponent

@[expose] public section

noncomputable section

open Idealize.ShloMosaic

namespace Cert.FrontValue

/-! ## The row functions -/

/-- The greatest magnitude of a row. -/
def amax {n : Nat} (v : Fin n → EReal) : EReal := Finset.univ.fold max ⊥ fun k => max (v k) (-(v k))

/-- The power-of-two scale of a row of greatest magnitude `a`, and its inverse. -/
def scale (a : EReal) : EReal := rpow (rexp a)
/-- The inverse of the scale of a row of greatest magnitude `a`. -/
def inv (a : EReal) : EReal := rpow (Ideal.ofBits .f32 0x00000000#32 - rexp a)

/-- Clipping to the range of the eight-bit float. -/
def clip (w : EReal) : EReal := min (Ideal.ofBits .f32 0x43E00000#32) (max (Ideal.ofBits .f32 0xC3E00000#32) w)

/-- The eight-bit float codes of a row. -/
def codes {n : Nat} (v : Fin n → EReal) (k : Fin n) : EReal := clip (v k * inv (amax v))

/-- The low-rank product of a row. -/
def zrow (x : Fin 7168 → EReal) (v : Fin 128 → Fin 7168 → EReal) (vs : Fin 128 → EReal) (c : Fin 128) : EReal :=
  (∑ k, codes x k * v c k) * scale (amax x) * vs c

/-- The scale of its integer codes. -/
def zscale (z : Fin 128 → EReal) : EReal :=
  Scalar.select (Ideal.cmp .oeq (amax z) (Ideal.ofBits .f32 0x00000000#32)) (Ideal.ofBits .f32 0x3F800000#32)
    (Ideal.div (amax z) (Ideal.ofBits .f32 0x42FE0000#32))

/-- Its integer codes, still as numbers. -/
def zquant (z : Fin 128 → EReal) (c : Fin 128) : EReal :=
  min (Ideal.ofBits .f32 0x42FE0000#32) (max (Ideal.ofBits .f32 0xC2FE0000#32)
    (Ideal.liftRound Ideal.roundHalfEven (Ideal.div (z c) (zscale z))))

/-- The entry that the row's tenant selects, 0 for a number that names no tenant. -/
def pick (tt : BitVec 32) (f : Fin 33 → EReal) : EReal := if h : tt.toNat < 33 then f ⟨tt.toNat, h⟩ else 0

/-- The product of a row's integer codes with its tenant's block, scaled. -/
def hrow (z : Fin 128 → EReal) (tt : BitVec 32) (sig : Fin 33 → Fin 128 → Fin 128 → BitVec 8)
    (ss : Fin 33 → Fin 128 → EReal) (c : Fin 128) : EReal :=
  pick tt fun t => (∑ k, zquant z k * (((sig t k c).toInt : ℝ) : EReal)) * zscale z * ss t c

/-! ## Greatest magnitudes -/

/-- The bf16 word of minus infinity. -/
theorem c_ninf16 : Ideal.ofBits .bf16 0xFF80#16 = ⊥ := by simp [Ideal.ofBits, Ideal.ieee]
/-- The f32 word of minus infinity. -/
theorem c_ninf : Ideal.ofBits .f32 0xFF800000#32 = ⊥ := by simp [Ideal.ofBits, Ideal.ieee]

/-- The magnitude of a bf16 number. -/
theorem abs_bf16 (x : EReal) : (FloatOps.absf (F := Ideal) (φ := .bf16) x : EReal) = max x (-x) := rfl
/-- The magnitude of an f32 number. -/
theorem abs_f32 (x : EReal) : (FloatOps.absf (F := Ideal) (φ := .f32) x : EReal) = max x (-x) := rfl

/-- A maximum taken from the least number is the greatest magnitude. -/
theorem amax_of {n : Nat} (v w : Fin n → EReal) (b : EReal) (hb : b = ⊥) (h : ∀ k, w k = max (v k) (-(v k))) :
    Finset.univ.fold max b w = amax v := by
  subst hb
  rw [show w = fun k => max (v k) (-(v k)) from funext h]
  unfold amax
  exact rfl

/-! ## The integer codes are integers -/

/-- The f32 word of -127. -/
theorem c_m127 : Ideal.ofBits .f32 0xC2FE0000#32 = ((-127 : ℝ) : EReal) := by
  simp [Ideal.ofBits, Ideal.ieee, -EReal.coe_mul, -EReal.coe_neg]; norm_num

/-- An integer code is a whole number between -127 and 127. -/
theorem zquant_int (z : Fin 128 → EReal) (c : Fin 128) :
    ∃ n : ℤ, -127 ≤ n ∧ n ≤ 127 ∧ zquant z c = ((n : ℝ) : EReal) := by
  unfold zquant
  rw [c_127, c_m127]
  induction Ideal.div (z c) (zscale z) using EReal.rec with
  | bot =>
    refine ⟨-127, by norm_num, by norm_num, ?_⟩
    show min _ (max _ ⊥) = _
    rw [max_bot_right, min_eq_right (by rw [EReal.coe_le_coe_iff]; norm_num)]
    norm_num
  | top =>
    refine ⟨127, by norm_num, by norm_num, ?_⟩
    show min _ (max _ ⊤) = _
    rw [max_top_right, min_top_right]
    norm_num
  | coe r =>
    rw [Ideal.liftRound_coe]
    generalize Ideal.roundHalfEven r = k
    refine ⟨min 127 (max (-127) k), by omega, by omega, ?_⟩
    have h1 : ((-127 : ℝ) : EReal) = ((((-127 : ℤ) : ℝ)) : EReal) := by norm_num
    have h2 : ((127 : ℝ) : EReal) = ((((127 : ℤ) : ℝ)) : EReal) := by norm_num
    have hmono : Monotone fun j : ℤ => ((j : ℝ) : EReal) := fun a b hab =>
      EReal.coe_le_coe_iff.mpr (Int.cast_le.mpr hab)
    rw [h1, h2]
    exact ((hmono.map_min).trans (congrArg _ hmono.map_max)).symm

/-- Reading the stored integer code back gives the number that was stored. -/
theorem zcode_back (z : Fin 128 → EReal) (c : Fin 128) :
    (((Ideal.fptosi 8 (zquant z c)).toInt : ℝ) : EReal) = zquant z c := by
  obtain ⟨n, h1, h2, h⟩ := zquant_int z c
  rw [h]
  unfold Ideal.fptosi
  have : Ideal.toIntClamped (-(2 ^ (8 - 1) : Nat)) ((2 ^ (8 - 1) : Nat) - 1) ((n : ℝ) : EReal) = n := by
    show max _ (min _ (if (0 : ℝ) ≤ (n : ℝ) then ⌊(n : ℝ)⌋ else ⌈(n : ℝ)⌉)) = n
    rw [Int.floor_intCast, Int.ceil_intCast, ite_self]
    norm_num
    omega
  rw [this, BitVec.toInt_ofInt]
  congr 2
  rw [Int.bmod_eq_of_le] <;> norm_num <;> omega

/-! ## Selecting the tenant's entry one tenant at a time -/

/-- The first `n` tenants tried in turn. -/
def chain (tt : BitVec 32) (f : Fin 33 → EReal) : Nat → EReal
  | 0 => Ideal.ofBits .f32 0x00000000#32
  | n + 1 => Scalar.select (IntOp.cmpi .eq tt (BitVec.ofNat 32 n)) (f (Fin.ofNat 33 n)) (chain tt f n)

/-- A choice by the equality of two words. -/
theorem select_eq {α : Type} (x y : BitVec 32) (a b : α) :
    Scalar.select (IntOp.cmpi .eq x y) a b = if x = y then a else b := by
  unfold Scalar.select IntOp.cmpi
  by_cases h : x = y
  · simp [h]
  · have hb : (x == y) = false := by simpa using h
    simp [hb, h]

/-- After the first `n` tenants: the entry of the row's tenant if it is below `n`, else 0. -/
theorem chain_eq (tt : BitVec 32) (f : Fin 33 → EReal) (n : Nat) (hn : n ≤ 33) :
    chain tt f n = if h : tt.toNat < n then f ⟨tt.toNat, by omega⟩ else 0 := by
  induction n with
  | zero => simp [chain, c_zero]
  | succ n ih =>
    rw [chain, select_eq, ih (by omega)]
    by_cases h : tt = BitVec.ofNat 32 n
    · have ht : tt.toNat = n := by rw [h, BitVec.toNat_ofNat, Nat.mod_eq_of_lt (by omega)]
      rw [if_pos h, dif_pos (by omega)]
      congr 1
      apply Fin.ext
      simp [Fin.ofNat, ht]
      omega
    · have ht : tt.toNat ≠ n := by
        intro h'; apply h; apply BitVec.eq_of_toNat_eq
        rw [h', BitVec.toNat_ofNat, Nat.mod_eq_of_lt (by omega)]
      rw [if_neg h]
      by_cases hl : tt.toNat < n
      · rw [dif_pos hl, dif_pos (by omega)]
      · rw [dif_neg hl, dif_neg (by omega)]

/-- All the tenants tried in turn select the tenant's entry. -/
theorem chain_pick (tt : BitVec 32) (f : Fin 33 → EReal) : chain tt f 33 = pick tt f :=
  chain_eq tt f 33 le_rfl

end Cert.FrontValue
-- ==== Proof.FrontRows.lean ====
/-
  The front kernel's block functions, row by row.
-/
module

public import proofs.«01_k».proof.Proof.FrontSpec
public import proofs.«01_k».proof.Proof.Gen.FrontIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FrontValue.Kernel
open Cert.FrontIdeal Cert.FrontIdeal.Gen

variable (x0 : Vec Ideal S256x1 .i32) (x1 : Vec Ideal S256x7168 .bf16) (x2 : Vec Ideal S128x7168 .fp8e4m3)
  (x3 : Vec Ideal S1x128 .f32) (x4 : Vec Ideal S33x128x128 .i8) (x5 : Vec Ideal S33x128 .f32)
  (quad : Vec Ideal S9x256x256 .bf16)

/-- The exponents of the rows, and their powers of two. -/
def E : IVec S256x1 32 := k0_pay45 (F := Ideal) (k0_pay42 x1) (k0_pay43 x1) (k0_pay44 x1) 23#32
/-- The powers of two of the rows' exponents. -/
def S : FVec Ideal S256x1 .f32 := k0_pay46 (F := Ideal) (k0_pay42 x1) (k0_pay43 x1) (k0_pay44 x1) 23#32

/-- Row `r` of a block. -/
abbrev xrow (r : Fin 256) : Fin 7168 → EReal := fun k => x1 (ix2 r k)

/-- The reduction to a row's greatest magnitude. -/
theorem red16 (v3 : FVec Ideal S256x7168 .bf16) (i : S256.Idx) :
    multiReduction (F := Ideal) (φ := .bf16) .maximumf [1] S256 (absf v3) 0xFF80#16 reduces_S256x7168_S256 (.inr rfl) rfl i = amax (fun k : Fin 7168 => (v3 (ix2 (i 0) k) : EReal)) := by
  have h : multiReduction (F := Ideal) (φ := .bf16) .maximumf [1] S256 (absf v3) 0xFF80#16 reduces_S256x7168_S256 (.inr rfl) rfl i = Finset.univ.fold max (Ideal.ofBits .bf16 0xFF80#16) (fun k : Fin 7168 => (FloatOps.absf (F := Ideal) (φ := .bf16) (v3 (ix2 (i 0) k)) : EReal)) := by
    pointwise []
  rw [h]
  exact amax_of _ _ _ c_ninf16 fun k => abs_bf16 _

/-- A column of numbers times the constant near 1/448. -/
theorem col42 (v : FVec Ideal S256 .bf16) (y : S256x1.Idx) : mulf (F := Ideal) (φ := .f32) (extf .f32 (shapeCast S256x1 v shapeCasts_S256_S256x1) bitsLt_bf16_f32) (broadcast S256x1 (Scalar.ofBits .f32 0x3B124925#32)) y = v (ix1 (y 0)) * recip := by
  pointwise [recip]

/-- A row's greatest magnitude times the constant near 1/448. -/
theorem pay42_apply (y : S256x1.Idx) : k0_pay42 x1 y = amax (xrow x1 (y 0)) * recip :=
  (col42 _ y).trans (congrArg (· * recip) (red16 x1 (ix1 (y 0))))

/-- One step of the search, on a column of rows. -/
theorem vstep (m : FVec Ideal S256x1 .f32) (f : IVec S256x1 32) (b : BitVec 32) (y : S256x1.Idx) :
    select (cmpf (F := Ideal) .oge m (bitcastToFloat .f32 (shli (addi f (broadcast S256x1 b)) (broadcast S256x1 23#32))))
      (addi f (broadcast S256x1 b)) f y = kstep (m y) (f y) b := rfl

/-- A broadcast word at an index. -/
theorem broadcast_at (b : BitVec 32) (y : S256x1.Idx) : broadcast S256x1 b y = b := rfl

/-- The first four bits of the search. -/
theorem pay43_apply (y : S256x1.Idx) : k0_pay43 x1 y
    = kstep (k0_pay42 x1 y) (kstep (k0_pay42 x1 y) (kstep (k0_pay42 x1 y) (kstep (k0_pay42 x1 y) 0#32 128#32) 64#32) 32#32) 16#32 := by
  unfold k0_pay43
  rw [vstep, vstep, vstep, vstep, broadcast_at]

/-- The choice between two fields is a step of the search. -/
theorem kstep_sel (m : EReal) (f b : BitVec 32) :
    Scalar.select (Ideal.cmp .oge m (power (IntOp.addi f b))) (IntOp.addi f b) f = kstep m f b := rfl

/-- The last four bits, and the exponent. -/
theorem pay45_apply (m : FVec Ideal S256x1 .f32) (f g : IVec S256x1 32) (y : S256x1.Idx) :
    k0_pay45 (F := Ideal) m f g 23#32 y
      = kunbias (kstep (m y) (kstep (m y) (kstep (m y)
          (Scalar.select (Ideal.cmp .oge (m y) (power (g y))) (g y) (f y)) 4#32) 2#32) 1#32) := by
  unfold k0_pay45
  generalize hf : select (cmpf .oge m (bitcastToFloat .f32 (shli g (broadcast S256x1 23#32)))) g f = h0
  generalize hh : select (cmpf .oge m (bitcastToFloat .f32 (shli (addi _ (broadcast S256x1 1#32)) (broadcast S256x1 23#32)))) _ _ = h3
  have h3' : h3 y = kstep (m y) (kstep (m y) (kstep (m y) (h0 y) 4#32) 2#32) 1#32 := by
    rw [← hh, vstep, vstep, vstep]
  have h0' : h0 y = Scalar.select (Ideal.cmp .oge (m y) (power (g y))) (g y) (f y) := by rw [← hf]; rfl
  rw [← h0', ← h3']
  rfl

/-- The exponent of a row is the kernel's exponent of its greatest magnitude. -/
theorem E_apply (y : S256x1.Idx) : E x1 y = kexp (amax (xrow x1 (y 0))) := by
  unfold E
  rw [pay45_apply, show k0_pay44 (F := Ideal) x1 y = IntOp.addi (k0_pay43 x1 y) 8#32 from rfl, pay43_apply, pay42_apply]
  rw [kstep_sel]
  unfold kexp kfield
  exact rfl

/-- The kernel's scale of a row. -/
theorem S_apply (y : S256x1.Idx) : S x1 y = scale (amax (xrow x1 (y 0))) := by
  have h : S x1 y = kpow (E x1 y) := by unfold S E k0_pay46; generalize k0_pay45 (F := Ideal) _ _ _ _ = e; rfl
  rw [h, E_apply, (exponent_eq _).1]; rfl

/-- The fp8 codes of the rows of x. -/
theorem codes_apply (y : S256x7168.Idx) : k0_pay48 (F := Ideal) x1 (E x1) k0_pay47 y = codes (xrow x1 (y 0)) (y 1) := by
  unfold codes inv
  rw [← (exponent_eq _).2]
  have h : E x1 (ix2 (y 0) 0) = kexp (amax (xrow x1 (y 0))) := E_apply x1 (ix2 (y 0) 0)
  pointwise [k0_pay48, k0_pay47, clip]
  rw [h]
  unfold kpow power xrow
  blk_point []

/-- The scales of the rows of x, in every lane. -/
theorem xs_apply (y : S256x128.Idx) : k0_pay49 (F := Ideal) (S x1) y = scale (amax (xrow x1 (y 0))) := by
  have h : S x1 (ix2 (y 0) 0) = scale (amax (xrow x1 (y 0))) := S_apply x1 (ix2 (y 0) 0)
  pointwise [k0_pay49]
  exact h

/-- The low-rank product. -/
def Z : FVec Ideal S256x128 .f32 := k0_pay50 (F := Ideal) x1 (E x1) (S x1) k0_pay47 x2 x3

/-- Row `r` of the low-rank product. -/
abbrev zr (r : Fin 256) : Fin 128 → EReal := zrow (xrow x1 r) (fun c k => x2 (ix2 c k)) (fun c => x3 (ix2 0 c))

/-- The low-rank product, row by row. -/
theorem Z_apply (y : S256x128.Idx) : Z x1 x2 x3 y = zr x1 x2 x3 (y 0) (y 1) := by
  have h : S x1 (ix2 (y 0) 0) = scale (amax (xrow x1 (y 0))) := S_apply x1 (ix2 (y 0) 0)
  have h' : ∀ k, k0_pay48 (F := Ideal) x1 (E x1) k0_pay47 (ix2 (y 0) k) = codes (xrow x1 (y 0)) k :=
    fun k => codes_apply x1 (ix2 (y 0) k)
  unfold zr zrow
  pointwise [Z, k0_pay50]
  simp only [h, h']

/-- Its codes' scale: whether the row is zero, the quotient, and the choice between. -/
def C : IVec S256x1 1 := k0_pay52 (F := Ideal) x1 (E x1) (S x1) k0_pay47 x2 x3
/-- The row's greatest magnitude over 127. -/
def Q : FVec Ideal S256x1 .f32 := k0_pay53 (F := Ideal) x1 (E x1) (S x1) k0_pay47 x2 x3
/-- The scale of a row of z. -/
def ZS : FVec Ideal S256x1 .f32 := k0_pay55 (F := Ideal) (C x1 x2 x3) (Q x1 x2 x3) k0_pay54

/-- The greatest magnitude of a row of z. -/
theorem az_apply (y : S256x1.Idx) : k0_pay51 (F := Ideal) x1 (E x1) (S x1) k0_pay47 x2 x3 y = amax (zr x1 x2 x3 (y 0)) := by
  have h : ∀ k, k0_pay50 (F := Ideal) x1 (E x1) (S x1) k0_pay47 x2 x3 (ix2 (y 0) k) = zr x1 x2 x3 (y 0) k :=
    fun k => Z_apply x1 x2 x3 (ix2 (y 0) k)
  unfold k0_pay51
  generalize k0_pay50 (F := Ideal) x1 (E x1) (S x1) k0_pay47 x2 x3 = a at h
  simp only [amax, ← h]
  pointwise []
  rw [c_ninf]
  simp only [abs_f32]

/-- The scale of a row of z. -/
theorem ZS_apply (y : S256x1.Idx) : ZS x1 x2 x3 y = zscale (zr x1 x2 x3 (y 0)) := by
  unfold zscale
  rw [← az_apply x1 x2 x3 y]
  unfold ZS C Q k0_pay55 k0_pay52 k0_pay53 k0_pay54
  generalize k0_pay51 (F := Ideal) x1 (E x1) (S x1) k0_pay47 x2 x3 = a
  rfl

/-- The integer codes of z, as numbers. -/
theorem zq_apply (y : S256x128.Idx) :
    k0_pay56 (F := Ideal) (Z x1 x2 x3) (C x1 x2 x3) (Q x1 x2 x3) k0_pay54 y = zquant (zr x1 x2 x3 (y 0)) (y 1) := by
  have h : k0_pay55 (F := Ideal) (C x1 x2 x3) (Q x1 x2 x3) k0_pay54 (ix2 (y 0) 0) = zscale (zr x1 x2 x3 (y 0)) :=
    ZS_apply x1 x2 x3 (ix2 (y 0) 0)
  unfold zquant
  rw [← h, ← Z_apply]
  pointwise [k0_pay56]

/-- The stored integer codes of z. -/
theorem zc_apply (y : S256x128.Idx) :
    k0_pay57 (F := Ideal) (Z x1 x2 x3) (C x1 x2 x3) (Q x1 x2 x3) k0_pay54 y
      = Ideal.fptosi 8 (zquant (zr x1 x2 x3 (y 0)) (y 1)) := by
  rw [← zq_apply]
  unfold k0_pay57
  generalize k0_pay56 (F := Ideal) (Z x1 x2 x3) (C x1 x2 x3) (Q x1 x2 x3) k0_pay54 = a
  rfl

/-- The scales of z, in every lane. -/
theorem zs_apply (y : S256x128.Idx) :
    k0_pay58 (F := Ideal) (C x1 x2 x3) (Q x1 x2 x3) k0_pay54 y = zscale (zr x1 x2 x3 (y 0)) := by
  have h : k0_pay55 (F := Ideal) (C x1 x2 x3) (Q x1 x2 x3) k0_pay54 (ix2 (y 0) 0) = zscale (zr x1 x2 x3 (y 0)) :=
    ZS_apply x1 x2 x3 (ix2 (y 0) 0)
  pointwise [k0_pay58]
  exact h

/-- The integer codes of z as bf16. -/
def ZB : FVec Ideal S256x128 .bf16 := k0_pay59 (F := Ideal) (Z x1 x2 x3) (C x1 x2 x3) (Q x1 x2 x3) k0_pay54

/-- The bf16 codes are the integer codes, as numbers. -/
theorem ZB_apply (y : S256x128.Idx) : ZB x1 x2 x3 y = zquant (zr x1 x2 x3 (y 0)) (y 1) := by
  rw [← zq_apply]
  unfold ZB k0_pay59
  generalize k0_pay56 (F := Ideal) (Z x1 x2 x3) (C x1 x2 x3) (Q x1 x2 x3) k0_pay54 = a
  rfl

end Cert.FrontValue.Kernel
-- ==== Proof.FrontTenant.lean ====
/-
  The tenant's block product in the front kernel: eighteen copies of the rows, each 0 except on the rows whose tenant
  uses it, times the blocks stacked; and the tenant's scales, the tenants tried in turn.
-/
module

public import proofs.«01_k».proof.Proof.FrontRows

@[expose] public section

set_option maxRecDepth 16384

noncomputable section

open Idealize.ShloMosaic Idealize.ShloMosaic.TcCoe Idealize.SL.Sem

namespace Cert.FrontValue.Kernel
open Cert.FrontIdeal Cert.FrontIdeal.Gen

/-- Whether tenant number `tt` uses copy `p` of its row. -/
def mask (p : Nat) (tt : BitVec 32) : BitVec 1 :=
  IntOp.andi (IntOp.cmpi .eq (IntOp.shrsi .vector tt 2#32) (BitVec.ofNat 32 (p / 2)))
    (IntOp.cmpi .eq (IntOp.andi tt 1#32) (BitVec.ofNat 32 (p % 2)))

/-- Copy `p` of the rows, 0 on the rows whose tenant does not use it. -/
def copy (z : FVec Ideal S256x128 .bf16) (tt : IVec S256x128 32) (z0 : FVec Ideal S256x128 .bf16) (p : Fin 18) :
    FVec Ideal S256x128 .bf16 := fun y => Scalar.select (mask p.val (tt y)) (z y) (z0 y)

/-- An entry of the product with the stacked blocks is the sum over their 2304 rows. -/
theorem prod_at (L : FVec Ideal S256x2304 .bf16) (q : FVec Ideal S9x256x256 .bf16) (r j : Fin 256) :
    matmul (F := Ideal) dot_S256x2304_S2304x256_S256x256_1_0_0_1_n_n none L (shapeCast S2304x256 q shapeCasts_S9x256x256_S2304x256)
      (constant S256x256 .f32 0x00000000#32) (ix2 r j)
      = ∑ k : Fin 2304, L (ix2 r k) * q (ix3 ⟨k.val / 256, by omega⟩ ⟨k.val % 256, by omega⟩ j) := by
  pointwise []

/-- The eighteen copies side by side: column `k` is column `k % 128` of copy `k / 128`. -/
theorem copies_at (z : FVec Ideal S256x128 .bf16) (tt : IVec S256x128 32) (z0 : FVec Ideal S256x128 .bf16)
    (xs : List ((s : Shape) × (s.Idx → EReal))) (h : Shape.Concatenates (xs.map (·.1)) S256x2304 1)
    (hxs : xs = List.ofFn fun n : Fin 18 => ⟨S256x128, copy z tt z0 n⟩) (r : Fin 256) (k : Fin 2304) :
    concatenate S256x2304 1 xs h (ix2 r k)
      = copy z tt z0 ⟨k.val / 128, by omega⟩ (ix2 r ⟨k.val % 128, by omega⟩) := by
  subst hxs
  refine concatenate_ofFn_apply (t := S256x2304) 1 (copy z tt z0) h rfl 128 rfl (ix2 r k) ⟨k.val / 128, by omega⟩ rfl _ rfl ?_
  intro b hb
  match b with
  | ⟨0, _⟩ => rfl
  | ⟨1, _⟩ => exact absurd rfl hb

/-- Tenant `t` uses one copy of its row, number `2 * (t / 4) + t % 2`. -/
theorem mask_self : ∀ (t : Fin 33) (p : Fin 18),
    mask p.val (BitVec.ofNat 32 t.val) = if p.val = 2 * (t.val / 4) + t.val % 2 then 1#1 else 0#1 := by
  decide +kernel

/-- The sum over all copies is the sum over the copy that the tenant uses. -/
theorem tenant_sum (t : Fin 33) (z : Fin 128 → EReal) (D : Fin 2304 → EReal) :
    ∑ k : Fin 2304, Scalar.select (mask (k.val / 128) (BitVec.ofNat 32 t.val)) (z ⟨k.val % 128, by omega⟩) 0 * D k
      = ∑ k : Fin 128, z k * D ⟨(2 * (t.val / 4) + t.val % 2) * 128 + k.val, by omega⟩ := by
  rw [Fin.sum_univ_tiles 18 128 (by norm_num : 18 * 128 = 2304)]
  rw [Finset.sum_eq_single (⟨2 * (t.val / 4) + t.val % 2, by omega⟩ : Fin 18)]
  · refine Finset.sum_congr rfl fun k _ => ?_
    have h1 : ((2 * (t.val / 4) + t.val % 2) * 128 + k.val) / 128 = 2 * (t.val / 4) + t.val % 2 := by omega
    have h2 : ((2 * (t.val / 4) + t.val % 2) * 128 + k.val) % 128 = k.val := by omega
    simp only [h1, h2]
    rw [mask_self t ⟨2 * (t.val / 4) + t.val % 2, by omega⟩]
    simp [Scalar.select]
  · intro p _ hp
    refine Finset.sum_eq_zero fun k _ => ?_
    have h1 : (p.val * 128 + k.val) / 128 = p.val := by omega
    simp only [h1]
    rw [mask_self t p, if_neg (fun h => hp (Fin.ext h))]
    simp [Scalar.select]
  · intro h; exact absurd (Finset.mem_univ _) h

/-- The choice between the left and the right half of the product's columns. -/
theorem half_at (c : IVec S256x128 1) (M : FVec Ideal S256x256 .f32) (y : S256x128.Idx) :
    select c (extractStridedSlice S256x128 ![0, 0] M slices_S256x256_o0_0_S256x128)
      (extractStridedSlice S256x128 ![0, 128] M slices_S256x256_o0_128_S256x128) y
      = Scalar.select (c y) (M (ix2 (y 0) ⟨(y 1).val, by have := (y 1).isLt; simp at this; omega⟩))
          (M (ix2 (y 0) ⟨128 + (y 1).val, by have := (y 1).isLt; simp at this; omega⟩)) := by
  pointwise []

/-- The eighteen copies side by side, times the stacked blocks: column `j` of row `r`. -/
def prod (z : FVec Ideal S256x128 .bf16) (tt : IVec S256x128 32) (z0 : FVec Ideal S256x128 .bf16)
    (q : FVec Ideal S9x256x256 .bf16) (r j : Fin 256) : EReal :=
  ∑ k : Fin 2304, copy z tt z0 ⟨k.val / 128, by omega⟩ (ix2 r ⟨k.val % 128, by omega⟩)
    * q (ix3 ⟨k.val / 256, by omega⟩ ⟨k.val % 256, by omega⟩ j)

/-- The kernel's product, with the half of its columns that the row's tenant chooses. -/
theorem pay82_apply (z : FVec Ideal S256x128 .bf16) (tt : IVec S256x128 32) (z0 : FVec Ideal S256x128 .bf16)
    (q : FVec Ideal S9x256x256 .bf16) (y : S256x128.Idx) :
    k0_pay82 (F := Ideal) z tt z0 (copy z tt z0 0) (copy z tt z0 1) (copy z tt z0 2) (copy z tt z0 3) (copy z tt z0 4)
      (copy z tt z0 5) (copy z tt z0 6) (copy z tt z0 7) (copy z tt z0 8) (copy z tt z0 9) (copy z tt z0 10)
      (copy z tt z0 11) (copy z tt z0 12) (copy z tt z0 13) (copy z tt z0 14) 2#32 q y
      = Scalar.select (IntOp.cmpi .eq (IntOp.andi (tt y) 2#32) 0#32)
          (prod z tt z0 q (y 0) ⟨(y 1).val, by have := (y 1).isLt; simp at this; omega⟩)
          (prod z tt z0 q (y 0) ⟨128 + (y 1).val, by have := (y 1).isLt; simp at this; omega⟩) := by
  unfold k0_pay82
  refine (half_at _ _ y).trans (congrArg₂ (Scalar.select _) ((prod_at _ q _ _).trans ?_) ((prod_at _ q _ _).trans ?_))
  · exact Finset.sum_congr rfl fun k _ => congrArg (· * _) (copies_at z tt z0 _ _ (by rfl) _ k)
  · exact Finset.sum_congr rfl fun k _ => congrArg (· * _) (copies_at z tt z0 _ _ (by rfl) _ k)

/-- One tenant's scales, chosen on the rows of that tenant. -/
theorem sel_var (c : IVec S256x128 1) (v : Vec Ideal S1x128 .f32) (acc : FVec Ideal S256x128 .f32) (y : S256x128.Idx) :
    select c (broadcastTo S256x128 (shapeCast S1x128 v shapeCasts_S1x128_S1x128) broadcasts_S1x128_S256x128) acc y
      = Scalar.select (c y) (v (ix2 0 (y 1))) (acc y) := by
  pointwise []

/-- The scales of tenant `n`, loaded from all of them. -/
theorem row_at (x5 : Vec Ideal S33x128 .f32) (n : Nat) (hn : n < 33) (c : Fin 128)
    (h : ∀ a, ![n, 0] a + ![1, 128] a ≤ S33x128.size a) :
    View.ld x5 (Rect.unit ![n, 0] ![1, 128] h) (ix2 0 c) = x5 (ix2 (Fin.ofNat 33 n) c) := by
  pointwise []
  exact congrArg (fun a => x5 (ix2 a c)) (Fin.ext (Nat.mod_eq_of_lt hn).symm)

/-- The scales of tenants 0 to 5. -/
theorem pay84_apply (tt : IVec S256x128 32) (acc : FVec Ideal S256x128 .f32) (v0 v1 v2 v3 v4 v5 : Vec Ideal S1x128 .f32)
    (y : S256x128.Idx) (f : Fin 33 → EReal) (hacc : acc y = chain (tt y) f 0)
    (h0 : v0 (ix2 0 (y 1)) = f (Fin.ofNat 33 0)) (h1 : v1 (ix2 0 (y 1)) = f (Fin.ofNat 33 1)) (h2 : v2 (ix2 0 (y 1)) = f (Fin.ofNat 33 2)) (h3 : v3 (ix2 0 (y 1)) = f (Fin.ofNat 33 3)) (h4 : v4 (ix2 0 (y 1)) = f (Fin.ofNat 33 4)) (h5 : v5 (ix2 0 (y 1)) = f (Fin.ofNat 33 5)) :
    k0_pay84 (F := Ideal) tt acc v0 v1 v2 v3 v4 v5 y = chain (tt y) f 6 := by
  unfold k0_pay84
  rw [sel_var, sel_var, sel_var, sel_var, sel_var, sel_var, hacc, h0, h1, h2, h3, h4, h5]
  exact rfl

/-- The scales of tenants 6 to 12, after those before. -/
theorem pay86_apply (tt : IVec S256x128 32) (acc : FVec Ideal S256x128 .f32) (v0 v1 v2 v3 v4 v5 v6 : Vec Ideal S1x128 .f32)
    (y : S256x128.Idx) (f : Fin 33 → EReal) (hacc : acc y = chain (tt y) f 6)
    (h0 : v0 (ix2 0 (y 1)) = f (Fin.ofNat 33 6)) (h1 : v1 (ix2 0 (y 1)) = f (Fin.ofNat 33 7)) (h2 : v2 (ix2 0 (y 1)) = f (Fin.ofNat 33 8)) (h3 : v3 (ix2 0 (y 1)) = f (Fin.ofNat 33 9)) (h4 : v4 (ix2 0 (y 1)) = f (Fin.ofNat 33 10)) (h5 : v5 (ix2 0 (y 1)) = f (Fin.ofNat 33 11)) (h6 : v6 (ix2 0 (y 1)) = f (Fin.ofNat 33 12)) :
    k0_pay86 (F := Ideal) tt acc (k0_pay85 tt) v0 v1 v2 v3 v4 v5 v6 y = chain (tt y) f 13 := by
  unfold k0_pay86
  rw [sel_var, sel_var, sel_var, sel_var, sel_var, sel_var, sel_var, hacc, h0, h1, h2, h3, h4, h5, h6]
  exact rfl

/-- The scales of tenants 13 to 19, after those before. -/
theorem pay88_apply (tt : IVec S256x128 32) (acc : FVec Ideal S256x128 .f32) (v0 v1 v2 v3 v4 v5 v6 : Vec Ideal S1x128 .f32)
    (y : S256x128.Idx) (f : Fin 33 → EReal) (hacc : acc y = chain (tt y) f 13)
    (h0 : v0 (ix2 0 (y 1)) = f (Fin.ofNat 33 13)) (h1 : v1 (ix2 0 (y 1)) = f (Fin.ofNat 33 14)) (h2 : v2 (ix2 0 (y 1)) = f (Fin.ofNat 33 15)) (h3 : v3 (ix2 0 (y 1)) = f (Fin.ofNat 33 16)) (h4 : v4 (ix2 0 (y 1)) = f (Fin.ofNat 33 17)) (h5 : v5 (ix2 0 (y 1)) = f (Fin.ofNat 33 18)) (h6 : v6 (ix2 0 (y 1)) = f (Fin.ofNat 33 19)) :
    k0_pay88 (F := Ideal) tt acc (k0_pay87 tt) v0 v1 v2 v3 v4 v5 v6 y = chain (tt y) f 20 := by
  unfold k0_pay88
  rw [sel_var, sel_var, sel_var, sel_var, sel_var, sel_var, sel_var, hacc, h0, h1, h2, h3, h4, h5, h6]
  exact rfl

/-- The scales of tenants 20 to 25, after those before. -/
theorem pay89_apply (tt : IVec S256x128 32) (acc : FVec Ideal S256x128 .f32) (v0 v1 v2 v3 v4 v5 : Vec Ideal S1x128 .f32)
    (y : S256x128.Idx) (f : Fin 33 → EReal) (hacc : acc y = chain (tt y) f 20)
    (h0 : v0 (ix2 0 (y 1)) = f (Fin.ofNat 33 20)) (h1 : v1 (ix2 0 (y 1)) = f (Fin.ofNat 33 21)) (h2 : v2 (ix2 0 (y 1)) = f (Fin.ofNat 33 22)) (h3 : v3 (ix2 0 (y 1)) = f (Fin.ofNat 33 23)) (h4 : v4 (ix2 0 (y 1)) = f (Fin.ofNat 33 24)) (h5 : v5 (ix2 0 (y 1)) = f (Fin.ofNat 33 25)) :
    k0_pay89 (F := Ideal) tt acc v0 v1 v2 v3 v4 v5 y = chain (tt y) f 26 := by
  unfold k0_pay89
  rw [sel_var, sel_var, sel_var, sel_var, sel_var, sel_var, hacc, h0, h1, h2, h3, h4, h5]
  exact rfl

/-- The scales of tenants 26 to 32, after those before, and the product scaled. -/
theorem pay91_apply (zs : FVec Ideal S256x1 .f32) (tt : IVec S256x128 32) (hacc acc : FVec Ideal S256x128 .f32) (v0 v1 v2 v3 v4 v5 v6 : Vec Ideal S1x128 .f32)
    (y : S256x128.Idx) (f : Fin 33 → EReal) (h : acc y = chain (tt y) f 26)
    (h0 : v0 (ix2 0 (y 1)) = f (Fin.ofNat 33 26)) (h1 : v1 (ix2 0 (y 1)) = f (Fin.ofNat 33 27)) (h2 : v2 (ix2 0 (y 1)) = f (Fin.ofNat 33 28)) (h3 : v3 (ix2 0 (y 1)) = f (Fin.ofNat 33 29)) (h4 : v4 (ix2 0 (y 1)) = f (Fin.ofNat 33 30)) (h5 : v5 (ix2 0 (y 1)) = f (Fin.ofNat 33 31)) (h6 : v6 (ix2 0 (y 1)) = f (Fin.ofNat 33 32)) :
    k0_pay91 (F := Ideal) zs tt hacc acc (k0_pay90 tt) v0 v1 v2 v3 v4 v5 v6 y = hacc y * zs (ix2 (y 0) 0) * pick (tt y) f := by
  rw [← chain_pick]
  have hm : ∀ (a b : FVec Ideal S256x128 .f32), mulf (mulf a (broadcastTo S256x128 zs broadcasts_S256x1_S256x128)) b y
      = a y * zs (ix2 (y 0) 0) * b y := by
    intro a b
    pointwise []
  unfold k0_pay91
  rw [hm, sel_var, sel_var, sel_var, sel_var, sel_var, sel_var, sel_var, h, h0, h1, h2, h3, h4, h5, h6]
  exact rfl

end Cert.FrontValue.Kernel
-- ==== Proof.FrontHidden.lean ====
/-
  The front kernel's last two results on one block of rows: the scaled block product of each row, its codes and its scale.
-/
module

public import proofs.«01_k».proof.Proof.FrontTenant

@[expose] public section

set_option maxRecDepth 16384

noncomputable section

open Idealize.ShloMosaic Idealize.ShloMosaic.TcCoe Idealize.SL.Sem

namespace Cert.FrontValue.Kernel
open Cert.FrontIdeal Cert.FrontIdeal.Gen

variable (x0 : Vec Ideal S256x1 .i32) (x1 : Vec Ideal S256x7168 .bf16) (x2 : Vec Ideal S128x7168 .fp8e4m3)
  (x3 : Vec Ideal S1x128 .f32) (x4 : Vec Ideal S33x128x128 .i8) (x5 : Vec Ideal S33x128 .f32)
  (quad : Vec Ideal S9x256x256 .bf16)

/-- The stacked blocks hold the tenants' blocks: tenant `t` in slab `t / 4`, row half `t % 2`, column half `t / 2 % 2`. -/
def Holds (quad : FVec Ideal S9x256x256 .bf16) (x4 : Vec Ideal S33x128x128 .i8) : Prop :=
  ∀ (t : Fin 33) (k c : Fin 128), quad (ix3 ⟨t.val / 4, by omega⟩ ⟨t.val % 2 * 128 + k.val, by omega⟩
    ⟨t.val / 2 % 2 * 128 + c.val, by omega⟩) = (((x4 (ix3 t k c)).toInt : ℝ) : EReal)

/-- The product with the tenant's block, before scaling. -/
def HACC : FVec Ideal S256x128 .f32 :=
  k0_pay82 (F := Ideal) (ZB x1 x2 x3) (k0_pay60 (F := Ideal) x0) k0_pay61
    (k0_pay62 (Z x1 x2 x3) (C x1 x2 x3) (Q x1 x2 x3) k0_pay54 x0) (k0_pay63 (Z x1 x2 x3) (C x1 x2 x3) (Q x1 x2 x3) k0_pay54 x0)
    (k0_pay65 (ZB x1 x2 x3) (k0_pay60 (F := Ideal) x0) k0_pay61 (k0_pay64 (F := Ideal) x0))
    (k0_pay66 (ZB x1 x2 x3) (k0_pay60 (F := Ideal) x0) k0_pay61) (k0_pay67 (ZB x1 x2 x3) (k0_pay60 (F := Ideal) x0) k0_pay61)
    (k0_pay68 (ZB x1 x2 x3) (k0_pay60 (F := Ideal) x0) k0_pay61)
    (k0_pay70 (ZB x1 x2 x3) (k0_pay60 (F := Ideal) x0) k0_pay61 (k0_pay69 (k0_pay60 (F := Ideal) x0)) 1#32)
    (k0_pay71 (ZB x1 x2 x3) (k0_pay60 (F := Ideal) x0) k0_pay61) (k0_pay72 (ZB x1 x2 x3) (k0_pay60 (F := Ideal) x0) k0_pay61)
    (k0_pay73 (ZB x1 x2 x3) (k0_pay60 (F := Ideal) x0) k0_pay61)
    (k0_pay77 (ZB x1 x2 x3) k0_pay61 (k0_pay74 (k0_pay60 (F := Ideal) x0)) (k0_pay75 (k0_pay60 (F := Ideal) x0)) k0_pay76)
    (k0_pay78 (ZB x1 x2 x3) (k0_pay60 (F := Ideal) x0) k0_pay61) (k0_pay79 (ZB x1 x2 x3) (k0_pay60 (F := Ideal) x0) k0_pay61)
    (k0_pay80 (ZB x1 x2 x3) (k0_pay60 (F := Ideal) x0) k0_pay61) (k0_pay81 (ZB x1 x2 x3) (k0_pay60 (F := Ideal) x0) k0_pay61)
    2#32 quad

/-- A row's tenant number, in every lane. -/
theorem tt_apply (y : S256x128.Idx) : k0_pay60 (F := Ideal) x0 y = x0 (ix2 (y 0) 0) := by pointwise [k0_pay60]

/-- The kernel's eighteen copies are the masked copies of z's codes. -/
theorem HACC_eq (z : FVec Ideal S256x128 .bf16) (hz : z = ZB x1 x2 x3) (tt : IVec S256x128 32) (ht : tt = k0_pay60 (F := Ideal) x0) :
    HACC x0 x1 x2 x3 quad = k0_pay82 (F := Ideal) z tt k0_pay61 (copy z tt k0_pay61 0) (copy z tt k0_pay61 1) (copy z tt k0_pay61 2)
      (copy z tt k0_pay61 3) (copy z tt k0_pay61 4) (copy z tt k0_pay61 5) (copy z tt k0_pay61 6) (copy z tt k0_pay61 7)
      (copy z tt k0_pay61 8) (copy z tt k0_pay61 9) (copy z tt k0_pay61 10) (copy z tt k0_pay61 11) (copy z tt k0_pay61 12)
      (copy z tt k0_pay61 13) (copy z tt k0_pay61 14) 2#32 quad := by
  have h0 : k0_pay62 (F := Ideal) (Z x1 x2 x3) (C x1 x2 x3) (Q x1 x2 x3) k0_pay54 x0 = copy z tt k0_pay61 0 := by
    subst hz ht
    unfold k0_pay62 ZB
    rfl
  have h1 : k0_pay63 (F := Ideal) (Z x1 x2 x3) (C x1 x2 x3) (Q x1 x2 x3) k0_pay54 x0 = copy z tt k0_pay61 1 := by
    subst hz ht
    unfold k0_pay63 ZB
    rfl
  have h2 : k0_pay65 (F := Ideal) z tt k0_pay61 (k0_pay64 (F := Ideal) x0) = copy z tt k0_pay61 2 := by
    subst ht
    rfl
  unfold HACC
  rw [h0, h1, ← hz, ← ht, h2]
  rfl

/-- Tenant `t` has its block in the left half if `t / 2` is even. -/
theorem half_self : ∀ t : Fin 33, IntOp.cmpi .eq (IntOp.andi (BitVec.ofNat 32 t.val) 2#32) 0#32
    = if t.val / 2 % 2 = 0 then 1#1 else 0#1 := by
  decide +kernel

/-- For a row of tenant `t` the product is the product with tenant `t`'s block. -/
theorem HACC_apply (hq : Holds quad x4) (y : S256x128.Idx) (t : Fin 33) (ht : x0 (ix2 (y 0) 0) = BitVec.ofNat 32 t.val) :
    HACC x0 x1 x2 x3 quad y
      = ∑ k, zquant (zr x1 x2 x3 (y 0)) k * (((x4 (ix3 t k (y 1))).toInt : ℝ) : EReal) := by
  rw [HACC_eq x0 x1 x2 x3 quad _ rfl _ rfl, pay82_apply, tt_apply, ht, half_self]
  have hp : ∀ j : Fin 256, prod (ZB x1 x2 x3) (k0_pay60 (F := Ideal) x0) k0_pay61 quad (y 0) j
      = ∑ k : Fin 128, zquant (zr x1 x2 x3 (y 0)) k
          * quad (ix3 ⟨t.val / 4, by omega⟩ ⟨t.val % 2 * 128 + k.val, by omega⟩ j) := by
    intro j
    have hz : ∀ k : Fin 2304, copy (ZB x1 x2 x3) (k0_pay60 (F := Ideal) x0) k0_pay61 ⟨k.val / 128, by omega⟩
        (ix2 (y 0) ⟨k.val % 128, by omega⟩)
        = Scalar.select (mask (k.val / 128) (BitVec.ofNat 32 t.val)) (zquant (zr x1 x2 x3 (y 0)) ⟨k.val % 128, by omega⟩) 0 := by
      intro k
      unfold copy
      rw [ZB_apply, tt_apply]
      refine congrArg₂ (fun a b => Scalar.select (mask (k.val / 128) a) _ b) ht ?_
      show Ideal.ofBits .bf16 0x0000#16 = 0
      simp [Ideal.ofBits, Ideal.ieee]
    have h := tenant_sum t (zquant (zr x1 x2 x3 (y 0))) fun k =>
      quad (ix3 ⟨k.val / 256, by omega⟩ ⟨k.val % 256, by omega⟩ j)
    unfold prod
    refine ((Finset.sum_congr rfl fun k _ => congrArg (· * _) (hz k)).trans h).trans ?_
    refine Finset.sum_congr rfl fun k _ => congrArg (fun i => _ * quad i) ?_
    refine congrArg₂ (fun a b => ix3 a b j) (Fin.ext ?_) (Fin.ext ?_)
    · show ((2 * (t.val / 4) + t.val % 2) * 128 + k.val) / 256 = t.val / 4
      omega
    · show ((2 * (t.val / 4) + t.val % 2) * 128 + k.val) % 256 = t.val % 2 * 128 + k.val
      omega
  rw [hp, hp]
  have hq' := fun k => hq t k (y 1)
  by_cases h : t.val / 2 % 2 = 0
  · rw [if_pos h, show ∀ a b : EReal, Scalar.select 1#1 a b = a from fun _ _ => if_pos rfl]
    refine Finset.sum_congr rfl fun k _ => congrArg (fun x => zquant (zr x1 x2 x3 (y 0)) k * x) ((congrArg quad ?_).trans (hq' k))
    refine congrArg (fun a => ix3 _ _ a) (Fin.ext ?_)
    show (y 1).val = t.val / 2 % 2 * 128 + (y 1).val
    omega
  · rw [if_neg h, show ∀ a b : EReal, Scalar.select 0#1 a b = b from fun _ _ => if_neg (by decide)]
    refine Finset.sum_congr rfl fun k _ => congrArg (fun x => zquant (zr x1 x2 x3 (y 0)) k * x) ((congrArg quad ?_).trans (hq' k))
    refine congrArg (fun a => ix3 _ _ a) (Fin.ext ?_)
    show 128 + (y 1).val = t.val / 2 % 2 * 128 + (y 1).val
    omega

/-- The product with the tenant's block, scaled. -/
def H : FVec Ideal S256x128 .f32 :=
  k0_pay91 (F := Ideal) (k0_pay55 (C x1 x2 x3) (Q x1 x2 x3) k0_pay54) (k0_pay60 (F := Ideal) x0) (HACC x0 x1 x2 x3 quad)
    (k0_pay89 (k0_pay60 (F := Ideal) x0) (k0_pay88 (k0_pay60 (F := Ideal) x0) (k0_pay86 (k0_pay60 (F := Ideal) x0)
      (k0_pay84 (k0_pay60 (F := Ideal) x0) k0_pay83 (View.ld x5 (Rect.unit ![0, 0] ![1, 128] inb_S33x128_S1x128_0_0)) (View.ld x5 (Rect.unit ![1, 0] ![1, 128] inb_S33x128_S1x128_1_0)) (View.ld x5 (Rect.unit ![2, 0] ![1, 128] inb_S33x128_S1x128_2_0)) (View.ld x5 (Rect.unit ![3, 0] ![1, 128] inb_S33x128_S1x128_3_0)) (View.ld x5 (Rect.unit ![4, 0] ![1, 128] inb_S33x128_S1x128_4_0)) (View.ld x5 (Rect.unit ![5, 0] ![1, 128] inb_S33x128_S1x128_5_0)))
      (k0_pay85 (k0_pay60 (F := Ideal) x0)) (View.ld x5 (Rect.unit ![6, 0] ![1, 128] inb_S33x128_S1x128_6_0)) (View.ld x5 (Rect.unit ![7, 0] ![1, 128] inb_S33x128_S1x128_7_0)) (View.ld x5 (Rect.unit ![8, 0] ![1, 128] inb_S33x128_S1x128_8_0)) (View.ld x5 (Rect.unit ![9, 0] ![1, 128] inb_S33x128_S1x128_9_0)) (View.ld x5 (Rect.unit ![10, 0] ![1, 128] inb_S33x128_S1x128_10_0)) (View.ld x5 (Rect.unit ![11, 0] ![1, 128] inb_S33x128_S1x128_11_0)) (View.ld x5 (Rect.unit ![12, 0] ![1, 128] inb_S33x128_S1x128_12_0)))
      (k0_pay87 (k0_pay60 (F := Ideal) x0)) (View.ld x5 (Rect.unit ![13, 0] ![1, 128] inb_S33x128_S1x128_13_0)) (View.ld x5 (Rect.unit ![14, 0] ![1, 128] inb_S33x128_S1x128_14_0)) (View.ld x5 (Rect.unit ![15, 0] ![1, 128] inb_S33x128_S1x128_15_0)) (View.ld x5 (Rect.unit ![16, 0] ![1, 128] inb_S33x128_S1x128_16_0)) (View.ld x5 (Rect.unit ![17, 0] ![1, 128] inb_S33x128_S1x128_17_0)) (View.ld x5 (Rect.unit ![18, 0] ![1, 128] inb_S33x128_S1x128_18_0)) (View.ld x5 (Rect.unit ![19, 0] ![1, 128] inb_S33x128_S1x128_19_0))) (View.ld x5 (Rect.unit ![20, 0] ![1, 128] inb_S33x128_S1x128_20_0)) (View.ld x5 (Rect.unit ![21, 0] ![1, 128] inb_S33x128_S1x128_21_0)) (View.ld x5 (Rect.unit ![22, 0] ![1, 128] inb_S33x128_S1x128_22_0)) (View.ld x5 (Rect.unit ![23, 0] ![1, 128] inb_S33x128_S1x128_23_0)) (View.ld x5 (Rect.unit ![24, 0] ![1, 128] inb_S33x128_S1x128_24_0)) (View.ld x5 (Rect.unit ![25, 0] ![1, 128] inb_S33x128_S1x128_25_0)))
    (k0_pay90 (k0_pay60 (F := Ideal) x0)) (View.ld x5 (Rect.unit ![26, 0] ![1, 128] inb_S33x128_S1x128_26_0)) (View.ld x5 (Rect.unit ![27, 0] ![1, 128] inb_S33x128_S1x128_27_0)) (View.ld x5 (Rect.unit ![28, 0] ![1, 128] inb_S33x128_S1x128_28_0)) (View.ld x5 (Rect.unit ![29, 0] ![1, 128] inb_S33x128_S1x128_29_0)) (View.ld x5 (Rect.unit ![30, 0] ![1, 128] inb_S33x128_S1x128_30_0)) (View.ld x5 (Rect.unit ![31, 0] ![1, 128] inb_S33x128_S1x128_31_0)) (View.ld x5 (Rect.unit ![32, 0] ![1, 128] inb_S33x128_S1x128_32_0))

/-- Row `r`'s product. -/
abbrev hr (r : Fin 256) : Fin 128 → EReal :=
  hrow (zr x1 x2 x3 r) (x0 (ix2 r 0)) (fun t k c => x4 (ix3 t k c)) (fun t c => x5 (ix2 t c))

/-- The scaled product of a row, for every tenant number. -/
theorem H_apply (hq : Holds quad x4) (y : S256x128.Idx) : H x0 x1 x2 x3 x5 quad y = hr x0 x1 x2 x3 x4 x5 (y 0) (y 1) := by
  have h := fun (n : Nat) (hn : n < 33) hb => row_at x5 n hn (y 1) hb
  have e : H x0 x1 x2 x3 x5 quad y = HACC x0 x1 x2 x3 quad y * k0_pay55 (F := Ideal) (C x1 x2 x3) (Q x1 x2 x3) k0_pay54 (ix2 (y 0) 0)
      * pick (k0_pay60 (F := Ideal) x0 y) (fun t => x5 (ix2 t (y 1))) := by
    unfold H
    refine pay91_apply _ _ _ _ _ _ _ _ _ _ _ y _ ?_ (h 26 (by decide) _) (h 27 (by decide) _) (h 28 (by decide) _) (h 29 (by decide) _) (h 30 (by decide) _) (h 31 (by decide) _) (h 32 (by decide) _)
    refine pay89_apply _ _ _ _ _ _ _ _ y _ ?_ (h 20 (by decide) _) (h 21 (by decide) _) (h 22 (by decide) _) (h 23 (by decide) _) (h 24 (by decide) _) (h 25 (by decide) _)
    refine pay88_apply _ _ _ _ _ _ _ _ _ y _ ?_ (h 13 (by decide) _) (h 14 (by decide) _) (h 15 (by decide) _) (h 16 (by decide) _) (h 17 (by decide) _) (h 18 (by decide) _) (h 19 (by decide) _)
    refine pay86_apply _ _ _ _ _ _ _ _ _ y _ ?_ (h 6 (by decide) _) (h 7 (by decide) _) (h 8 (by decide) _) (h 9 (by decide) _) (h 10 (by decide) _) (h 11 (by decide) _) (h 12 (by decide) _)
    refine pay84_apply _ _ _ _ _ _ _ _ y _ ?_ (h 0 (by decide) _) (h 1 (by decide) _) (h 2 (by decide) _) (h 3 (by decide) _) (h 4 (by decide) _) (h 5 (by decide) _)
    rfl
  rw [e, tt_apply, show k0_pay55 (F := Ideal) (C x1 x2 x3) (Q x1 x2 x3) k0_pay54 (ix2 (y 0) 0) = zscale (zr x1 x2 x3 (y 0)) from
    ZS_apply x1 x2 x3 (ix2 (y 0) 0)]
  unfold hr hrow pick
  by_cases ht : (x0 (ix2 (y 0) 0)).toNat < 33
  · rw [dif_pos ht, dif_pos ht, HACC_apply x0 x1 x2 x3 x4 quad hq y ⟨_, ht⟩ (by simp)]
  · rw [dif_neg ht, dif_neg ht, mul_zero]

/-- A row's greatest magnitude times the constant near 1/448. -/
theorem pay92_apply (v : FVec Ideal S256x128 .f32) (y : S256x1.Idx) :
    k0_pay92 (F := Ideal) v y = amax (fun k : Fin 128 => (v (ix2 (y 0) k) : EReal)) * recip := by
  have h : k0_pay92 (F := Ideal) v y
      = Finset.univ.fold max (Ideal.ofBits .f32 0xFF800000#32) (fun k : Fin 128 => (FloatOps.absf (F := Ideal) (φ := .f32) (v (ix2 (y 0) k)) : EReal)) * recip := by
    pointwise [k0_pay92, recip]
  rw [h]
  exact congrArg (· * recip) (amax_of _ _ _ c_ninf fun k => abs_f32 _)

/-- The first five bits of the search. -/
theorem pay93_apply (v : FVec Ideal S256x128 .f32) (y : S256x1.Idx) : k0_pay93 (F := Ideal) v y
    = kstep (k0_pay92 v y) (kstep (k0_pay92 v y) (kstep (k0_pay92 v y) (kstep (k0_pay92 v y) (kstep (k0_pay92 v y) 0#32 128#32) 64#32) 32#32) 16#32) 8#32 := by
  unfold k0_pay93
  rw [vstep, vstep, vstep, vstep, vstep, broadcast_at]

/-- The last three bits, and the exponent. -/
theorem pay96_apply (m : FVec Ideal S256x1 .f32) (f g s : IVec S256x1 32) (hs : s = shli g (broadcast S256x1 23#32)) (y : S256x1.Idx) :
    k0_pay96 (F := Ideal) m f g s y
      = kunbias (kstep (m y) (kstep (m y) (Scalar.select (Ideal.cmp .oge (m y) (power (g y))) (g y) (f y)) 2#32) 1#32) := by
  subst hs
  unfold k0_pay96
  generalize hf : select (cmpf .oge m (bitcastToFloat .f32 (shli g (broadcast S256x1 23#32)))) g f = h0
  generalize hh : select (cmpf .oge m (bitcastToFloat .f32 (shli (addi _ (broadcast S256x1 1#32)) (broadcast S256x1 23#32)))) _ _ = h3
  have h3' : h3 y = kstep (m y) (kstep (m y) (h0 y) 2#32) 1#32 := by
    rw [← hh, vstep, vstep]
  have h0' : h0 y = Scalar.select (Ideal.cmp .oge (m y) (power (g y))) (g y) (f y) := by rw [← hf]; rfl
  rw [← h0', ← h3']
  rfl

/-- The exponents of the scaled product's rows. -/
def HE (v : FVec Ideal S256x128 .f32) : IVec S256x1 32 :=
  k0_pay96 (F := Ideal) (k0_pay92 v) (k0_pay93 v) (k0_pay94 v) (k0_pay95 v)

/-- The exponent of a row of h. -/
theorem HE_apply (v : FVec Ideal S256x128 .f32) (y : S256x1.Idx) :
    HE v y = kexp (amax (fun k : Fin 128 => (v (ix2 (y 0) k) : EReal))) := by
  unfold HE
  refine (pay96_apply (k0_pay92 v) (k0_pay93 v) (k0_pay94 v) (k0_pay95 v) rfl y).trans ?_
  rw [show k0_pay94 (F := Ideal) v y = IntOp.addi (k0_pay93 v y) 4#32 from rfl, pay93_apply, pay92_apply]
  rw [kstep_sel]
  unfold kexp kfield
  exact rfl

/-- The fp8 codes of the rows of h. -/
theorem pay97_apply (v : FVec Ideal S256x128 .f32) (y : S256x128.Idx) :
    k0_pay97 (F := Ideal) v (k0_pay92 v) (k0_pay93 v) (k0_pay94 v) (k0_pay95 v) y
      = codes (fun k : Fin 128 => (v (ix2 (y 0) k) : EReal)) (y 1) := by
  unfold codes inv
  rw [← (exponent_eq _).2]
  have h : k0_pay96 (F := Ideal) (k0_pay92 v) (k0_pay93 v) (k0_pay94 v) (k0_pay95 v) (ix2 (y 0) 0) = kexp (amax (fun k : Fin 128 => (v (ix2 (y 0) k) : EReal))) := HE_apply v (ix2 (y 0) 0)
  pointwise [k0_pay97, clip]
  rw [h]
  unfold kpow power
  blk_point []

/-- The scales of the rows of h, in every lane. -/
theorem pay1_apply (v : FVec Ideal S256x128 .f32) (y : S256x128.Idx) :
    k0_pay1 (F := Ideal) (k0_pay96 (F := Ideal) (k0_pay92 v) (k0_pay93 v) (k0_pay94 v) (k0_pay95 v)) y
      = scale (amax (fun k : Fin 128 => (v (ix2 (y 0) k) : EReal))) := by
  have h : k0_pay96 (F := Ideal) (k0_pay92 v) (k0_pay93 v) (k0_pay94 v) (k0_pay95 v) (ix2 (y 0) 0) = kexp (amax (fun k : Fin 128 => (v (ix2 (y 0) k) : EReal))) := HE_apply v (ix2 (y 0) 0)
  unfold scale
  rw [← (exponent_eq _).1]
  pointwise [k0_pay1]
  rw [h]
  rfl

end Cert.FrontValue.Kernel
-- ==== Proof.FrontBlocks.lean ====
/-
  The front kernel's six result blocks after each of its points, and the scratch that carries the tenants' blocks from
  the first point to the others.
-/
module

public import proofs.«01_k».proof.Proof.FrontHidden
public import proofs.«01_k».proof.Proof.Gen.FrontIdeal.Value

@[expose] public section

set_option maxRecDepth 16384

noncomputable section

open Idealize.ShloMosaic Idealize.ShloMosaic.TcCoe Idealize.SL.Sem
open Idealize.ShloMosaic.Pipeline (Dat)

namespace Cert.FrontValue.Kernel
open Cert.FrontIdeal Cert.FrontIdeal.Gen

variable (m : (ℓ : Loc nD τ sig) → Buf (Elt Ideal) ℓ) (c : Dev nD)

/-- The stacked blocks at an index. -/
def slab (x4 : Vec Ideal S33x128x128 .i8) (y : S9x256x256.Idx) : EReal :=
  if h : 4 * (y 0).val + 2 * ((y 2).val / 128) + (y 1).val / 128 < 33 then
    (((x4 (ix3 ⟨_, h⟩ ⟨(y 1).val % 128, Nat.mod_lt _ (by decide)⟩ ⟨(y 2).val % 128, Nat.mod_lt _ (by decide)⟩)).toInt : ℝ) : EReal)
  else 0

/-- Inside the tile of tenant `n` the stacked blocks hold its block. -/
theorem slab_tile (x4 : Vec Ideal S33x128x128 .i8) (n : Nat) (hn : n < 33) (r c : Fin 128) (y : S9x256x256.Idx)
    (h0 : (y 0).val = n / 4) (h1 : (y 1).val = n % 2 * 128 + r.val) (h2 : (y 2).val = n / 2 % 2 * 128 + c.val) :
    (((x4 (ix3 ⟨n, hn⟩ r c)).toInt : ℝ) : EReal) = slab x4 y := by
  have e : 4 * (y 0).val + 2 * ((y 2).val / 128) + (y 1).val / 128 = n := by omega
  unfold slab
  rw [dif_pos (by omega)]
  refine congrArg (fun i => (((x4 i).toInt : ℝ) : EReal)) ?_
  refine congr (congrArg₂ ix3 (Fin.ext e.symm) (Fin.ext ?_)) (Fin.ext ?_)
  · show r.val = (y 1).val % 128
    omega
  · show c.val = (y 2).val % 128
    omega

/-- Inside the tiles after the last tenant they hold 0. -/
theorem slab_zero (x4 : Vec Ideal S33x128x128 .i8) (n : Nat) (hn : 33 ≤ n) (r c : Fin 128) (y : S9x256x256.Idx)
    (h0 : (y 0).val = n / 4) (h1 : (y 1).val = n % 2 * 128 + r.val) (h2 : (y 2).val = n / 2 % 2 * 128 + c.val) :
    (0 : EReal) = slab x4 y := by
  unfold slab
  rw [dif_neg (by omega)]

/-- The stacked blocks hold every tenant's block. -/
theorem slab_holds (x4 : Vec Ideal S33x128x128 .i8) : Holds (slab x4) x4 := by
  intro t k c
  refine (slab_tile x4 t.val t.isLt k c _ ?_ ?_ ?_).symm <;> rfl

/-- Every tile's payload: a tenant's block, converted. -/
theorem tile_at (x4 : Vec Ideal S33x128x128 .i8) (n : Nat) (hn : n < 33)
    (h : ∀ a, ![n, 0, 0] a + ![1, 128, 128] a ≤ S33x128x128.size a) (x : S1x128x128.Idx) :
    k0_pay2 (F := Ideal) (View.ld x4 (Rect.unit ![n, 0, 0] ![1, 128, 128] h)) x = (((x4 (ix3 ⟨n, hn⟩ (x 1) (x 2))).toInt : ℝ) : EReal) := by
  have hp : ∀ v : Vec Ideal S1x128x128 .i8, k0_pay2 (F := Ideal) v x = (((v x).toInt : ℝ) : EReal) := by
    intro v
    pointwise [k0_pay2]
    exact rfl
  rw [hp]
  refine congrArg (fun i : BitVec 8 => ((i.toInt : ℝ) : EReal)) ?_
  pointwise []

/-- The zero tile. -/
theorem zero_at (x : S1x128x128.Idx) : k0_pay39 (F := Ideal) x = 0 := by
  show Ideal.ofBits .bf16 0x0000#16 = 0
  simp [Ideal.ofBits, Ideal.ieee]

/-- What the first point stores in the scratch. -/
theorem scrA (t : Fin cfg0.N) (h : t.val % 16 = 0) (y : S9x256x256.Idx) :
    (outsAt0 m c t.val t.isLt).2.2.2.2.2.2 y = slab (iblk m c 4 t) y := by
  rw [outsAt0_A m c t h]
  frame_out
  generalize hx : iblk m c 4 t = x4
  canon_tiles x h
  all_goals
    first
    | exact (tile_at x4 _ (by decide) _ x).trans (slab_tile x4 _ _ (x 1) (x 2) y (by omega) (by omega) (by omega))
    | exact (zero_at x).trans (slab_zero x4 33 (by decide) (x 1) (x 2) y (by omega) (by omega) (by omega))
    | exact (zero_at x).trans (slab_zero x4 34 (by decide) (x 1) (x 2) y (by omega) (by omega) (by omega))
    | exact (zero_at x).trans (slab_zero x4 35 (by decide) (x 1) (x 2) y (by omega) (by omega) (by omega))

/-- The rows move with the point; the other arguments' blocks are whole. -/
theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

/-- The block of argument 2 is the whole array. -/
theorem blk2 (t : Fin cfg0.N) : iblk m c 2 t = m ((c : Thread nD τ).loc main_arg2) := by
  funext y
  blk_point [iblk, V, idx t]
/-- The block of argument 3 is the whole array. -/
theorem blk3 (t : Fin cfg0.N) : iblk m c 3 t = m ((c : Thread nD τ).loc main_arg3) := by
  funext y
  blk_point [iblk, V, idx t]
/-- The block of argument 4 is the whole array. -/
theorem blk4 (t : Fin cfg0.N) : iblk m c 4 t = m ((c : Thread nD τ).loc main_arg4) := by
  funext y
  blk_point [iblk, V, idx t]
/-- The block of argument 5 is the whole array. -/
theorem blk5 (t : Fin cfg0.N) : iblk m c 5 t = m ((c : Thread nD τ).loc main_arg5) := by
  funext y
  blk_point [iblk, V, idx t]

/-- After every point the scratch holds the tenants' blocks. -/
theorem scr (n : Nat) (hn : n < cfg0.N) : (outsAt0 m c n hn).2.2.2.2.2.2 = slab (m ((c : Thread nD τ).loc main_arg4)) := by
  induction n with
  | zero =>
    funext y
    exact (scrA m c ⟨0, hn⟩ rfl y).trans (congrArg (fun x => slab x y) (blk4 m c _))
  | succ n ih =>
    by_cases h : (n + 1) % 16 = 0
    · funext y
      exact (scrA m c ⟨n + 1, hn⟩ h y).trans (congrArg (fun x => slab x y) (blk4 m c _))
    · refine Eq.trans ?_ (ih (by omega))
      have e := outsAt0_B m c ⟨n + 1, hn⟩ h
      have e' := congrArg (fun p => p.2.2.2.2.2.2) e
      exact e'

/-! ## The six result blocks after a point -/

/-- A point's block of the codes of x. -/
theorem pt6 (t : Fin cfg0.N) (y : S256x7168.Idx) :
    (outsAt0 m c t.val t.isLt).1 y = codes (xrow (iblk m c 1 t) (y 0)) (y 1) := by
  by_cases h : t.val % 16 = 0
  · rw [outsAt0_A m c t h]
    frame_out
    exact codes_apply _ y
  · rw [outsAt0_B m c t h]
    frame_out
    exact codes_apply _ y

/-- A point's block of the scales of x. -/
theorem pt7 (t : Fin cfg0.N) (y : S256x128.Idx) :
    (outsAt0 m c t.val t.isLt).2.1 y = scale (amax (xrow (iblk m c 1 t) (y 0))) := by
  by_cases h : t.val % 16 = 0
  · rw [outsAt0_A m c t h]
    frame_out
    exact xs_apply _ y
  · rw [outsAt0_B m c t h]
    frame_out
    exact xs_apply _ y

/-- A point's block of the codes of z. -/
theorem pt8 (t : Fin cfg0.N) (y : S256x128.Idx) :
    (outsAt0 m c t.val t.isLt).2.2.1 y = Ideal.fptosi 8 (zquant (zr (iblk m c 1 t) (iblk m c 2 t) (iblk m c 3 t) (y 0)) (y 1)) := by
  by_cases h : t.val % 16 = 0
  · rw [outsAt0_A m c t h]
    frame_out
    exact zc_apply _ _ _ y
  · rw [outsAt0_B m c t h]
    frame_out
    exact zc_apply _ _ _ y

/-- A point's block of the scales of z. -/
theorem pt9 (t : Fin cfg0.N) (y : S256x128.Idx) :
    (outsAt0 m c t.val t.isLt).2.2.2.1 y = zscale (zr (iblk m c 1 t) (iblk m c 2 t) (iblk m c 3 t) (y 0)) := by
  by_cases h : t.val % 16 = 0
  · rw [outsAt0_A m c t h]
    frame_out
    exact zs_apply _ _ _ y
  · rw [outsAt0_B m c t h]
    frame_out
    exact zs_apply _ _ _ y

/-- Loading the whole scratch after the stores reads what they left. -/
theorem load_whole {sig : RefSig} {κ : Kind} {sp : Space} (v : View sig κ sp S9x256x256 .bf16)
    (L : List (View.Piece (Elt Ideal) S9x256x256 .bf16)) (i : S9x256x256.Idx) :
    v.readCov L (Rect.unit ![0, 0, 0] S9x256x256.size inb_S9x256x256_S9x256x256_0_0_0).toLoadRect i = View.canon L i := by
  have h : ∀ w : Vec Ideal S9x256x256 .bf16, View.ld w (Rect.unit ![0, 0, 0] S9x256x256.size inb_S9x256x256_S9x256x256_0_0_0) = w :=
    fun w => View.ld_unit_lit' inb_S9x256x256_S9x256x256_0_0_0 w (by decide)
  refine (congrFun (View.readCov_eq_canon' v L (Rect.unit ![0, 0, 0] S9x256x256.size inb_S9x256x256_S9x256x256_0_0_0).toLoadRect) i).trans ?_
  exact congrFun (h (View.canon L)) i

/-- The scaled block product's row, when the scratch holds the tenants' blocks. -/
theorem hid (x0 : Vec Ideal S256x1 .i32) (x1 : Vec Ideal S256x7168 .bf16) (x2 : Vec Ideal S128x7168 .fp8e4m3)
    (x3 : Vec Ideal S1x128 .f32) (x4 : Vec Ideal S33x128x128 .i8) (x5 : Vec Ideal S33x128 .f32) (quad : FVec Ideal S9x256x256 .bf16)
    (hq : ∀ y, quad y = slab x4 y) (r : Fin 256) :
    (fun k : Fin 128 => (H x0 x1 x2 x3 x5 quad (ix2 r k) : EReal)) = hr x0 x1 x2 x3 x4 x5 r := by
  obtain rfl : quad = slab x4 := funext hq
  exact funext fun k => H_apply x0 x1 x2 x3 x4 x5 _ (slab_holds x4) (ix2 r k)

/-- A point's block of the codes of h. -/
theorem pt10 (t : Fin cfg0.N) (y : S256x128.Idx) :
    (outsAt0 m c t.val t.isLt).2.2.2.2.1 y = codes (hr (iblk m c 0 t) (iblk m c 1 t) (iblk m c 2 t) (iblk m c 3 t) (iblk m c 4 t) (iblk m c 5 t) (y 0)) (y 1) := by
  by_cases h : t.val % 16 = 0
  · rw [outsAt0_A m c t h]
    frame_out
    refine (pay97_apply (H (iblk m c 0 t) (iblk m c 1 t) (iblk m c 2 t) (iblk m c 3 t) (iblk m c 5 t) _) y).trans ?_
    refine congrArg (fun z => codes z (y 1)) (hid _ _ _ _ _ _ _ (fun i => ?_) _)
    refine (load_whole _ _ i).trans ?_
    generalize iblk m c 4 t = x4
    canon_tiles x h
    all_goals
      first
      | exact (tile_at x4 _ (by decide) _ x).trans (slab_tile x4 _ _ (x 1) (x 2) i (by omega) (by omega) (by omega))
      | exact (zero_at x).trans (slab_zero x4 33 (by decide) (x 1) (x 2) i (by omega) (by omega) (by omega))
      | exact (zero_at x).trans (slab_zero x4 34 (by decide) (x 1) (x 2) i (by omega) (by omega) (by omega))
      | exact (zero_at x).trans (slab_zero x4 35 (by decide) (x 1) (x 2) i (by omega) (by omega) (by omega))
  · rw [outsAt0_B m c t h]
    frame_out
    refine (pay97_apply (H (iblk m c 0 t) (iblk m c 1 t) (iblk m c 2 t) (iblk m c 3 t) (iblk m c 5 t) _) y).trans ?_
    refine congrArg (fun z => codes z (y 1)) (hid _ _ _ _ _ _ _ (fun i => ?_) _)
    rw [blk4]
    exact congrFun ((Memref.IsWhole.read_unread _ _).trans (scr m c _ _)) i

/-- A point's block of the scales of h. -/
theorem pt11 (t : Fin cfg0.N) (y : S256x128.Idx) :
    (outsAt0 m c t.val t.isLt).2.2.2.2.2.1 y = scale (amax (hr (iblk m c 0 t) (iblk m c 1 t) (iblk m c 2 t) (iblk m c 3 t) (iblk m c 4 t) (iblk m c 5 t) (y 0))) := by
  by_cases h : t.val % 16 = 0
  · rw [outsAt0_A m c t h]
    frame_out
    refine (pay1_apply (H (iblk m c 0 t) (iblk m c 1 t) (iblk m c 2 t) (iblk m c 3 t) (iblk m c 5 t) _) y).trans ?_
    refine congrArg (fun z => scale (amax z)) (hid _ _ _ _ _ _ _ (fun i => ?_) _)
    refine (load_whole _ _ i).trans ?_
    generalize iblk m c 4 t = x4
    canon_tiles x h
    all_goals
      first
      | exact (tile_at x4 _ (by decide) _ x).trans (slab_tile x4 _ _ (x 1) (x 2) i (by omega) (by omega) (by omega))
      | exact (zero_at x).trans (slab_zero x4 33 (by decide) (x 1) (x 2) i (by omega) (by omega) (by omega))
      | exact (zero_at x).trans (slab_zero x4 34 (by decide) (x 1) (x 2) i (by omega) (by omega) (by omega))
      | exact (zero_at x).trans (slab_zero x4 35 (by decide) (x 1) (x 2) i (by omega) (by omega) (by omega))
  · rw [outsAt0_B m c t h]
    frame_out
    refine (pay1_apply (H (iblk m c 0 t) (iblk m c 1 t) (iblk m c 2 t) (iblk m c 3 t) (iblk m c 5 t) _) y).trans ?_
    refine congrArg (fun z => scale (amax z)) (hid _ _ _ _ _ _ _ (fun i => ?_) _)
    rw [blk4]
    exact congrFun ((Memref.IsWhole.read_unread _ _).trans (scr m c _ _)) i

end Cert.FrontValue.Kernel
-- ==== Proof.FrontFinal.lean ====
/-
  The front kernel's six result arrays, as functions of its argument arrays.
-/
module

public import proofs.«01_k».proof.Proof.FrontBlocks

@[expose] public section

set_option maxRecDepth 16384

noncomputable section

open Idealize.ShloMosaic Idealize.ShloMosaic.TcCoe Idealize.SL.Sem
open Idealize.ShloMosaic.Pipeline (Dat)

namespace Cert.FrontValue.Kernel
open Cert.FrontIdeal Cert.FrontIdeal.Gen

variable (m : (ℓ : Loc nD τ sig) → Buf (Elt Ideal) ℓ) (c : Dev nD)

/-- A point's block of rows starts at 256 times the point. -/
def rowOf (t : Fin cfg0.N) (r : Fin 256) : Fin 4096 :=
  ⟨t.val * 256 + r.val, by have : t.val < 16 := lt_of_lt_of_eq t.isLt (show cfg0.N = 16 from N_0); omega⟩

/-- A point's block of tenant numbers, read from the argument. -/
theorem row0 (t : Fin cfg0.N) (r : Fin 256) :
    iblk m c 0 t (ix2 r 0) = m ((c : Thread nD τ).loc main_arg0) (ix2 (rowOf t r) 0) := by
  blk_point [iblk, V, idx t, rowOf]

/-- A point's block of rows of x, read from the argument. -/
theorem row1 (t : Fin cfg0.N) (r : Fin 256) (k : Fin 7168) :
    iblk m c 1 t (ix2 r k) = m ((c : Thread nD τ).loc main_arg1) (ix2 (rowOf t r) k) := by
  blk_point [iblk, V, idx t, rowOf]

/-! ## A result block's row in its array -/

/-- Where an element of a point's block of the codes of x lies in the array. -/
theorem emb6 (t : Fin cfg0.N) (y : S256x7168.Idx) : (win0_6.blk t).view.emb y = ix2 (rowOf t (y 0)) (y 1) := by
  blk_ext <;> simp [idx t, rowOf]

/-- Where an element of a point's block of the scales of x lies in the array. -/
theorem emb7 (t : Fin cfg0.N) (y : S256x128.Idx) : (win0_7.blk t).view.emb y = ix2 (rowOf t (y 0)) (y 1) := by
  blk_ext <;> simp [idx t, rowOf]

/-- Where an element of a point's block of the codes of z lies in the array. -/
theorem emb8 (t : Fin cfg0.N) (y : S256x128.Idx) : (win0_8.blk t).view.emb y = ix2 (rowOf t (y 0)) (y 1) := by
  blk_ext <;> simp [idx t, rowOf]

/-- Where an element of a point's block of the scales of z lies in the array. -/
theorem emb9 (t : Fin cfg0.N) (y : S256x128.Idx) : (win0_9.blk t).view.emb y = ix2 (rowOf t (y 0)) (y 1) := by
  blk_ext <;> simp [idx t, rowOf]

/-- Where an element of a point's block of the codes of h lies in the array. -/
theorem emb10 (t : Fin cfg0.N) (y : S256x128.Idx) : (win0_10.blk t).view.emb y = ix2 (rowOf t (y 0)) (y 1) := by
  blk_ext <;> simp [idx t, rowOf]

/-- Where an element of a point's block of the scales of h lies in the array. -/
theorem emb11 (t : Fin cfg0.N) (y : S256x128.Idx) : (win0_11.blk t).view.emb y = ix2 (rowOf t (y 0)) (y 1) := by
  blk_ext <;> simp [idx t, rowOf]

/-! ## Rows of the argument arrays -/

/-- A row of a point's block is a row of x. -/
theorem xr (t : Fin cfg0.N) (r : Fin 256) :
    xrow (iblk m c 1 t) r = fun k : Fin 7168 => (m ((c : Thread nD τ).loc main_arg1) (ix2 (rowOf t r) k) : EReal) :=
  funext fun k => row1 m c t r k

/-- Row `r` of the low-rank product, from the arguments. -/
def zrG (a1 : Vec Ideal S4096x7168 .bf16) (a2 : Vec Ideal S128x7168 .fp8e4m3) (a3 : Vec Ideal S1x128 .f32) (r : Fin 4096) : Fin 128 → EReal :=
  zrow (fun k : Fin 7168 => (a1 (ix2 r k) : EReal)) (fun c k => a2 (ix2 c k)) (fun c => a3 (ix2 0 c))

/-- Row `r` of the scaled block product, from the arguments. -/
def hrG (a0 : Vec Ideal S4096x1 .i32) (a1 : Vec Ideal S4096x7168 .bf16) (a2 : Vec Ideal S128x7168 .fp8e4m3) (a3 : Vec Ideal S1x128 .f32)
    (a4 : Vec Ideal S33x128x128 .i8) (a5 : Vec Ideal S33x128 .f32) (r : Fin 4096) : Fin 128 → EReal :=
  hrow (zrG a1 a2 a3 r) (a0 (ix2 r 0)) (fun t k c => a4 (ix3 t k c)) (fun t c => a5 (ix2 t c))

/-- A row of z in a point's block, from the arguments. -/
theorem zrB (t : Fin cfg0.N) (r : Fin 256) : zr (iblk m c 1 t) (iblk m c 2 t) (iblk m c 3 t) r = zrG (m ((c : Thread nD τ).loc main_arg1)) (m ((c : Thread nD τ).loc main_arg2)) (m ((c : Thread nD τ).loc main_arg3)) (rowOf t r) := by
  unfold zr zrG
  rw [xr, blk2, blk3]

/-- A row of h in a point's block, from the arguments. -/
theorem hrB (t : Fin cfg0.N) (r : Fin 256) : hr (iblk m c 0 t) (iblk m c 1 t) (iblk m c 2 t) (iblk m c 3 t) (iblk m c 4 t) (iblk m c 5 t) r = hrG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowOf t r) := by
  unfold hr hrG
  rw [zrB, row0, blk4, blk5]

/-! ## The arrays -/

/-- The kernel's array of the codes of x. -/
theorem final6 : (dats m 0 c).arrAt 6 (cfgs 0).N
    = fun i : S4096x7168.Idx => codes (fun k : Fin 7168 => (m ((c : Thread nD τ).loc main_arg1) (ix2 (i 0) k) : EReal)) (i 1) := by
  refine (dats m 0 c).arrAt_eq_of_covers 6 _ (by decide +kernel) fun t _ y => ?_
  blk_simp
  rw [after0_6]
  refine (pt6 m c t y).trans ?_
  refine (congrArg (fun z => codes z (y 1)) (xr m c t (y 0))).trans ?_
  exact (congrArg (fun i : S4096x7168.Idx => codes (fun k : Fin 7168 => (m ((c : Thread nD τ).loc main_arg1) (ix2 (i 0) k) : EReal)) (i 1)) (emb6 t y)).symm

/-- The kernel's array of the scales of x. -/
theorem final7 : (dats m 0 c).arrAt 7 (cfgs 0).N
    = fun i : S4096x128.Idx => scale (amax (fun k : Fin 7168 => (m ((c : Thread nD τ).loc main_arg1) (ix2 (i 0) k) : EReal))) := by
  refine (dats m 0 c).arrAt_eq_of_covers 7 _ (by decide +kernel) fun t _ y => ?_
  blk_simp
  rw [after0_7]
  refine (pt7 m c t y).trans ?_
  refine (congrArg (fun z => scale (amax z)) (xr m c t (y 0))).trans ?_
  exact (congrArg (fun i : S4096x128.Idx => scale (amax (fun k : Fin 7168 => (m ((c : Thread nD τ).loc main_arg1) (ix2 (i 0) k) : EReal)))) (emb7 t y)).symm

/-- The kernel's array of the codes of z. -/
theorem final8 : (dats m 0 c).arrAt 8 (cfgs 0).N
    = fun i : S4096x128.Idx => Ideal.fptosi 8 (zquant (zrG (m ((c : Thread nD τ).loc main_arg1)) (m ((c : Thread nD τ).loc main_arg2)) (m ((c : Thread nD τ).loc main_arg3)) (i 0)) (i 1)) := by
  refine (dats m 0 c).arrAt_eq_of_covers 8 _ (by decide +kernel) fun t _ y => ?_
  blk_simp
  rw [after0_8]
  refine (pt8 m c t y).trans ?_
  refine (congrArg (fun z => Ideal.fptosi 8 (zquant z (y 1))) (zrB m c t (y 0))).trans ?_
  exact (congrArg (fun i : S4096x128.Idx => Ideal.fptosi 8 (zquant (zrG (m ((c : Thread nD τ).loc main_arg1)) (m ((c : Thread nD τ).loc main_arg2)) (m ((c : Thread nD τ).loc main_arg3)) (i 0)) (i 1))) (emb8 t y)).symm

/-- The kernel's array of the scales of z. -/
theorem final9 : (dats m 0 c).arrAt 9 (cfgs 0).N
    = fun i : S4096x128.Idx => zscale (zrG (m ((c : Thread nD τ).loc main_arg1)) (m ((c : Thread nD τ).loc main_arg2)) (m ((c : Thread nD τ).loc main_arg3)) (i 0)) := by
  refine (dats m 0 c).arrAt_eq_of_covers 9 _ (by decide +kernel) fun t _ y => ?_
  blk_simp
  rw [after0_9]
  refine (pt9 m c t y).trans ?_
  refine (congrArg (fun z => zscale z) (zrB m c t (y 0))).trans ?_
  exact (congrArg (fun i : S4096x128.Idx => zscale (zrG (m ((c : Thread nD τ).loc main_arg1)) (m ((c : Thread nD τ).loc main_arg2)) (m ((c : Thread nD τ).loc main_arg3)) (i 0))) (emb9 t y)).symm

/-- The kernel's array of the codes of h. -/
theorem final10 : (dats m 0 c).arrAt 10 (cfgs 0).N
    = fun i : S4096x128.Idx => codes (hrG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0)) (i 1) := by
  refine (dats m 0 c).arrAt_eq_of_covers 10 _ (by decide +kernel) fun t _ y => ?_
  blk_simp
  rw [after0_10]
  refine (pt10 m c t y).trans ?_
  refine (congrArg (fun z => codes z (y 1)) (hrB m c t (y 0))).trans ?_
  exact (congrArg (fun i : S4096x128.Idx => codes (hrG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0)) (i 1)) (emb10 t y)).symm

/-- The kernel's array of the scales of h. -/
theorem final11 : (dats m 0 c).arrAt 11 (cfgs 0).N
    = fun i : S4096x128.Idx => scale (amax (hrG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0))) := by
  refine (dats m 0 c).arrAt_eq_of_covers 11 _ (by decide +kernel) fun t _ y => ?_
  blk_simp
  rw [after0_11]
  refine (pt11 m c t y).trans ?_
  refine (congrArg (fun z => scale (amax z)) (hrB m c t (y 0))).trans ?_
  exact (congrArg (fun i : S4096x128.Idx => scale (amax (hrG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0)))) (emb11 t y)).symm

end Cert.FrontValue.Kernel
-- ==== Proof.FrontRefRows.lean ====
/-
  The reference of the front call, read row by row: the operations at an index, the scale and the codes of a row of x,
  the row of z, its scale and its int8 codes.
-/
module

public import proofs.«01_k».proof.Proof.FrontSpec
public import proofs.«01_k».proof.Proof.Gen.FrontRefIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FrontValue.Reference
open Cert.FrontRefIdeal Cert.FrontRefIdeal.Gen

/-! ## The operations, read at an index -/

section
variable {s : Shape} (y : s.Idx)
/-- A choice at an index. -/
theorem sel_at {α : Type} (c : IVec s 1) (a b : s.Idx → α) : select c a b y = Scalar.select (c y) (a y) (b y) := (rfl)
/-- A comparison at an index. -/
theorem cmp_at (p : CmpFPredicate) (a b : FVec Ideal s .f32) : cmpf (F := Ideal) p a b y = Ideal.cmp p (a y) (b y) := (rfl)
/-- A disjunction at an index. -/
theorem or_at (a b : IVec s 1) : ori a b y = IntOp.ori (a y) (b y) := (rfl)
/-- A product at an index. -/
theorem mul_at (a b : FVec Ideal s .f32) : mulf (F := Ideal) a b y = a y * b y := (rfl)
/-- A sum at an index. -/
theorem add_at (a b : FVec Ideal s .f32) : addf (F := Ideal) a b y = a y + b y := (rfl)
/-- A difference at an index. -/
theorem sub_at (a b : FVec Ideal s .f32) : subf (F := Ideal) a b y = a y - b y := (rfl)
/-- A quotient at an index. -/
theorem div_at (a b : FVec Ideal s .f32) : divf (F := Ideal) a b y = Ideal.div (a y) (b y) := (rfl)
/-- A maximum at an index. -/
theorem max_at (a b : FVec Ideal s .f32) : maximumf (F := Ideal) a b y = max (a y) (b y) := (rfl)
/-- A minimum at an index. -/
theorem min_at (a b : FVec Ideal s .f32) : minimumf (F := Ideal) a b y = min (a y) (b y) := (rfl)
/-- A logarithm at an index. -/
theorem log_at (a : FVec Ideal s .f32) : log (F := Ideal) a y = Ideal.log (a y) := (rfl)
/-- A power of two at an index. -/
theorem exp2_at (a : FVec Ideal s .f32) : exp2 (F := Ideal) a y = Ideal.exp2 (a y) := (rfl)
/-- A floor at an index. -/
theorem floor_at (a : FVec Ideal s .f32) : floor (F := Ideal) a y = Ideal.liftRound Int.floor (a y) := (rfl)
/-- Rounding to even at an index. -/
theorem round_at (a : FVec Ideal s .f32) : roundeven (F := Ideal) a y = Ideal.liftRound Ideal.roundHalfEven (a y) := (rfl)
/-- The conversion to an eight-bit integer at an index. -/
theorem toi_at (a : FVec Ideal s .f32) : fptosi (F := Ideal) 8 a y = Ideal.fptosi 8 (a y) := (rfl)
/-- A broadcast value at an index. -/
theorem bc_at {α : Type} (a : α) : broadcast s a y = a := (rfl)
end
/-- A constant word, as a number. -/
theorem const_at' (b : BitVec 32) : Scalar.ofBits (F := Ideal) .f32 b = Ideal.ofBits .f32 b := (rfl)
/-- A constant word, as a number. -/
theorem const_at (b : BitVec 32) : FloatOps.ofBits (F := Ideal) .f32 b = Ideal.ofBits .f32 b := (rfl)

variable (x0 : Vec Ideal S4096x1 .i32) (x1 : Vec Ideal S4096x7168 .bf16) (x2 : Vec Ideal S128x7168 .fp8e4m3)
  (x3 : Vec Ideal S1x128 .f32) (x4 : Vec Ideal S33x128x128 .i8) (x5 : Vec Ideal S33x128 .f32)

/-- Row `r` of the input. -/
abbrev xrow (r : Fin 4096) : Fin 7168 → EReal := fun k => x1 (ix2 r k)

/-- The greatest magnitude of a row of 7168 numbers. -/
theorem red_x (v : FVec Ideal S4096x7168 .f32) (y : S4096x1.Idx) :
    shapeCast S4096x1 (multiReduction (F := Ideal) (φ := .f32) .maximumf [1] S4096 (absf v) 0xFF800000#32 reduces_S4096x7168_S4096 (.inl rfl) rfl)
      shapeCasts_S4096_S4096x1 y = amax (fun k : Fin 7168 => (v (ix2 (y 0) k) : EReal)) := by
  have h : shapeCast S4096x1 (multiReduction (F := Ideal) (φ := .f32) .maximumf [1] S4096 (absf v) 0xFF800000#32 reduces_S4096x7168_S4096 (.inl rfl) rfl)
      shapeCasts_S4096_S4096x1 y = Finset.univ.fold max (Ideal.ofBits .f32 0xFF800000#32)
        (fun k : Fin 7168 => (FloatOps.absf (F := Ideal) (φ := .f32) (v (ix2 (y 0) k)) : EReal)) := by
    pointwise []
  rw [h]
  exact amax_of _ _ _ c_ninf fun k => abs_f32 _

/-- The greatest magnitude of a row of 128 numbers. -/
theorem red_z (v : FVec Ideal S4096x128 .f32) (y : S4096x1.Idx) :
    shapeCast S4096x1 (multiReduction (F := Ideal) (φ := .f32) .maximumf [1] S4096 (absf v) 0xFF800000#32 reduces_S4096x128_S4096 (.inl rfl) rfl)
      shapeCasts_S4096_S4096x1 y = amax (fun k : Fin 128 => (v (ix2 (y 0) k) : EReal)) := by
  have h : shapeCast S4096x1 (multiReduction (F := Ideal) (φ := .f32) .maximumf [1] S4096 (absf v) 0xFF800000#32 reduces_S4096x128_S4096 (.inl rfl) rfl)
      shapeCasts_S4096_S4096x1 y = Finset.univ.fold max (Ideal.ofBits .f32 0xFF800000#32)
        (fun k : Fin 128 => (FloatOps.absf (F := Ideal) (φ := .f32) (v (ix2 (y 0) k)) : EReal)) := by
    pointwise []
  rw [h]
  exact amax_of _ _ _ c_ninf fun k => abs_f32 _

/-- The exponent of a row's scale. -/
theorem pay5_apply (y : S4096x1.Idx) : k0_pay5 (F := Ideal) x1 y = rexp (amax (xrow x1 (y 0))) := by
  have h : shapeCast S4096x1 (multiReduction (F := Ideal) (φ := .f32) .maximumf [1] S4096 (absf (k0_pay4 (F := Ideal) x1)) 0xFF800000#32 reduces_S4096x7168_S4096 (.inl rfl) rfl)
      shapeCasts_S4096_S4096x1 y = amax (xrow x1 (y 0)) := red_x (k0_pay4 (F := Ideal) x1) y
  rw [← h]
  unfold k0_pay5
  generalize shapeCast S4096x1 (multiReduction (F := Ideal) (φ := .f32) .maximumf [1] S4096 (absf (k0_pay4 (F := Ideal) x1)) 0xFF800000#32 reduces_S4096x7168_S4096 (.inl rfl) rfl)
      shapeCasts_S4096_S4096x1 = a
  simp only [sel_at, cmp_at, or_at, mul_at, add_at, sub_at, div_at, max_at, min_at, log_at, exp2_at, floor_at, round_at, toi_at, bc_at, const_at, const_at']
  unfold rexp recip
  with_reducible rfl

/-- The power of two of an exponent. -/
theorem pay8_apply (v : FVec Ideal S4096x1 .f32) (y : S4096x1.Idx) : k0_pay8 (F := Ideal) v y = rpow (v y) := by
  unfold k0_pay8
  simp only [sel_at, cmp_at, or_at, mul_at, add_at, sub_at, div_at, max_at, min_at, log_at, exp2_at, floor_at, round_at, toi_at, bc_at, const_at, const_at']
  unfold rpow
  with_reducible rfl

/-- The codes of the input. -/
theorem pay6_apply (y : S4096x7168.Idx) : k0_pay6 (F := Ideal) x1 y = codes (xrow x1 (y 0)) (y 1) := by
  have h : k0_pay5 (F := Ideal) x1 (ix2 (y 0) 0) = rexp (amax (xrow x1 (y 0))) := pay5_apply x1 (ix2 (y 0) 0)
  have hb : ∀ (a : FVec Ideal S4096x7168 .f32) (b : FVec Ideal S4096x1 .f32) (c d : EReal),
      minimumf (F := Ideal) (φ := .f32) (broadcast S4096x7168 c) (maximumf (broadcast S4096x7168 d) (mulf a (broadcastTo S4096x7168 b broadcasts_S4096x1_S4096x7168))) y
        = min c (max d (a y * b (ix2 (y 0) 0))) := by
    intro a b c d
    pointwise []
  have hk : k0_pay6 (F := Ideal) x1 y = clip (k0_pay4 (F := Ideal) x1 y * inv (amax (xrow x1 (y 0)))) := by
    unfold inv
    rw [← h]
    unfold k0_pay6
    generalize k0_pay5 (F := Ideal) x1 = e
    generalize k0_pay4 (F := Ideal) x1 = a
    refine (hb _ _ _ _).trans ?_
    simp only [sel_at, cmp_at, or_at, mul_at, add_at, sub_at, div_at, max_at, min_at, log_at, exp2_at, floor_at, round_at, toi_at, bc_at, const_at, const_at']
    unfold clip rpow
    with_reducible rfl
  refine hk.trans (congrArg (fun a => clip (a * inv (amax (xrow x1 (y 0))))) ?_)
  exact congrArg x1 (eq_ix2 y)

/-- The codes of x as they are stored. -/
theorem pay7_apply (y : S4096x7168.Idx) : k0_pay7 (F := Ideal) (k0_pay6 x1) y = codes (xrow x1 (y 0)) (y 1) :=
  pay6_apply x1 y

/-- The scales of the rows of x, in every lane. -/
theorem xs_apply (y : S4096x128.Idx) :
    k0_pay1 (F := Ideal) (k0_pay8 (k0_pay5 x1)) y = scale (amax (xrow x1 (y 0))) := by
  have h : k0_pay8 (F := Ideal) (k0_pay5 x1) (ix2 (y 0) 0) = scale (amax (xrow x1 (y 0))) := by
    rw [pay8_apply]
    exact congrArg rpow (pay5_apply x1 (ix2 (y 0) 0))
  pointwise [k0_pay1]
  exact h

/-- Row `r` of the low-rank product. -/
abbrev zr (r : Fin 4096) : Fin 128 → EReal := zrow (xrow x1 r) (fun c k => x2 (ix2 c k)) (fun c => x3 (ix2 0 c))

/-- The low-rank product. -/
def Z : FVec Ideal S4096x128 .f32 := k0_pay9 (F := Ideal) (k0_pay5 x1) (k0_pay6 x1) x2 x3
/-- The scales of the rows of z. -/
def ZS : FVec Ideal S4096x1 .f32 := k0_pay10 (F := Ideal) (k0_pay5 x1) (k0_pay6 x1) x2 x3

/-- The low-rank product, row by row. -/
theorem Z_apply (y : S4096x128.Idx) : Z x1 x2 x3 y = zr x1 x2 x3 (y 0) (y 1) := by
  have h : k0_pay8 (F := Ideal) (k0_pay5 x1) (ix2 (y 0) 0) = scale (amax (xrow x1 (y 0))) := by
    rw [pay8_apply]
    exact congrArg rpow (pay5_apply x1 (ix2 (y 0) 0))
  have h' : ∀ k, k0_pay7 (F := Ideal) (k0_pay6 x1) (ix2 (y 0) k) = codes (xrow x1 (y 0)) k :=
    fun k => pay7_apply x1 (ix2 (y 0) k)
  unfold Z
  generalize k0_pay5 (F := Ideal) x1 = e at h
  generalize k0_pay6 (F := Ideal) x1 = f at h'
  unfold zr zrow
  pointwise [k0_pay9]
  simp only [h, h']

/-- The scale of a row of z. -/
theorem ZS_apply (y : S4096x1.Idx) : ZS x1 x2 x3 y = zscale (zr x1 x2 x3 (y 0)) := by
  have h' : (fun k : Fin 128 => (k0_pay9 (F := Ideal) (k0_pay5 x1) (k0_pay6 x1) x2 x3 (ix2 (y 0) k) : EReal)) = zr x1 x2 x3 (y 0) := by
    funext k
    exact Z_apply x1 x2 x3 (ix2 (y 0) k)
  have h : shapeCast S4096x1 (multiReduction (F := Ideal) (φ := .f32) .maximumf [1] S4096 (absf (k0_pay9 (F := Ideal) (k0_pay5 x1) (k0_pay6 x1) x2 x3)) 0xFF800000#32 reduces_S4096x128_S4096 (.inl rfl) rfl)
      shapeCasts_S4096_S4096x1 y = amax (zr x1 x2 x3 (y 0)) :=
    (red_z _ y).trans (congrArg amax h')
  unfold zscale
  rw [← h]
  unfold ZS k0_pay10
  generalize shapeCast S4096x1 (multiReduction (F := Ideal) (φ := .f32) .maximumf [1] S4096 (absf (k0_pay9 (F := Ideal) (k0_pay5 x1) (k0_pay6 x1) x2 x3)) 0xFF800000#32 reduces_S4096x128_S4096 (.inl rfl) rfl)
      shapeCasts_S4096_S4096x1 = a
  simp only [sel_at, cmp_at, or_at, mul_at, add_at, sub_at, div_at, max_at, min_at, log_at, exp2_at, floor_at, round_at, toi_at, bc_at, const_at, const_at'] <;>
  with_reducible rfl

/-- The stored integer codes of z. -/
theorem zc_apply (y : S4096x128.Idx) :
    k0_pay11 (F := Ideal) (k0_pay5 x1) (k0_pay6 x1) x2 x3 y = Ideal.fptosi 8 (zquant (zr x1 x2 x3 (y 0)) (y 1)) := by
  have h : k0_pay10 (F := Ideal) (k0_pay5 x1) (k0_pay6 x1) x2 x3 (ix2 (y 0) 0) = zscale (zr x1 x2 x3 (y 0)) :=
    ZS_apply x1 x2 x3 (ix2 (y 0) 0)
  have hz : k0_pay9 (F := Ideal) (k0_pay5 x1) (k0_pay6 x1) x2 x3 y = zr x1 x2 x3 (y 0) (y 1) := Z_apply x1 x2 x3 y
  have hb : ∀ b : FVec Ideal S4096x1 .f32, broadcastTo S4096x128 b broadcasts_S4096x1_S4096x128 y = b (ix2 (y 0) 0) := by
    intro b
    pointwise []
  have hk : k0_pay11 (F := Ideal) (k0_pay5 x1) (k0_pay6 x1) x2 x3 y = Ideal.fptosi 8 (min (Ideal.ofBits .f32 0x42FE0000#32) (max (Ideal.ofBits .f32 0xC2FE0000#32)
      (Ideal.liftRound Ideal.roundHalfEven (Ideal.div (k0_pay9 (F := Ideal) (k0_pay5 x1) (k0_pay6 x1) x2 x3 y)
        (broadcastTo S4096x128 (k0_pay10 (F := Ideal) (k0_pay5 x1) (k0_pay6 x1) x2 x3) broadcasts_S4096x1_S4096x128 y))))) := by
    unfold k0_pay11
    generalize k0_pay9 (F := Ideal) (k0_pay5 x1) (k0_pay6 x1) x2 x3 = a
    generalize k0_pay10 (F := Ideal) (k0_pay5 x1) (k0_pay6 x1) x2 x3 = b
    simp only [sel_at, cmp_at, or_at, mul_at, add_at, sub_at, div_at, max_at, min_at, log_at, exp2_at, floor_at, round_at, toi_at, bc_at, const_at, const_at']
  rw [hk, hb, hz]
  unfold zquant
  rw [← h]

/-- The scales of z, in every lane. -/
theorem zs_apply (y : S4096x128.Idx) : k0_pay2 (F := Ideal) (ZS x1 x2 x3) y = zscale (zr x1 x2 x3 (y 0)) := by
  have h : ZS x1 x2 x3 (ix2 (y 0) 0) = zscale (zr x1 x2 x3 (y 0)) := ZS_apply x1 x2 x3 (ix2 (y 0) 0)
  pointwise [k0_pay2]
  exact h

/-- The integer codes of z as bf16. -/
def ZB : FVec Ideal S4096x128 .bf16 := k0_pay12 (F := Ideal) (k0_pay5 x1) (k0_pay6 x1) x2 x3

/-- The bf16 codes are the integer codes, as numbers. -/
theorem ZB_apply (y : S4096x128.Idx) : ZB x1 x2 x3 y = zquant (zr x1 x2 x3 (y 0)) (y 1) := by
  have h : ZB x1 x2 x3 y = (((k0_pay11 (F := Ideal) (k0_pay5 x1) (k0_pay6 x1) x2 x3 y).toInt : ℝ) : EReal) := by
    unfold ZB k0_pay12
    generalize k0_pay11 (F := Ideal) (k0_pay5 x1) (k0_pay6 x1) x2 x3 = a
    exact (rfl)
  refine h.trans ((congrArg (fun i : BitVec 8 => ((i.toInt : ℝ) : EReal)) (zc_apply x1 x2 x3 y)).trans ?_)
  exact zcode_back _ _

/-! ## The hidden rows' exponent, codes and scale, of a row of the hidden product -/

/-- The exponent of a row of h. -/
theorem pay27_apply (v : FVec Ideal S4096x128 .f32) (y : S4096x1.Idx) :
    k0_pay27 (F := Ideal) (absf v) y = rexp (amax (fun k : Fin 128 => (v (ix2 (y 0) k) : EReal))) := by
  rw [← red_z v y]
  unfold k0_pay27
  generalize shapeCast S4096x1 (multiReduction (F := Ideal) (φ := .f32) .maximumf [1] S4096 (absf (v)) 0xFF800000#32 reduces_S4096x128_S4096 (.inl rfl) rfl)
      shapeCasts_S4096_S4096x1 = a
  simp only [sel_at, cmp_at, or_at, mul_at, add_at, sub_at, div_at, max_at, min_at, log_at, exp2_at, floor_at, round_at, toi_at, bc_at, const_at, const_at']
  unfold rexp recip
  with_reducible rfl

/-- The codes of a row of h. -/
theorem pay28_apply (v : FVec Ideal S4096x128 .f32) (y : S4096x128.Idx) :
    k0_pay28 (F := Ideal) v (absf v) y = codes (fun k : Fin 128 => (v (ix2 (y 0) k) : EReal)) (y 1) := by
  have h : k0_pay27 (F := Ideal) (absf v) (ix2 (y 0) 0) = rexp (amax (fun k : Fin 128 => (v (ix2 (y 0) k) : EReal))) := pay27_apply v (ix2 (y 0) 0)
  have hb : ∀ (a : FVec Ideal S4096x128 .f32) (b : FVec Ideal S4096x1 .f32) (c d : EReal),
      minimumf (F := Ideal) (φ := .f32) (broadcast S4096x128 c) (maximumf (broadcast S4096x128 d) (mulf a (broadcastTo S4096x128 b broadcasts_S4096x1_S4096x128))) y
        = min c (max d (a y * b (ix2 (y 0) 0))) := by
    intro a b c d
    pointwise []
  have hk : k0_pay28 (F := Ideal) v (absf v) y = clip (v y * inv (amax (fun k : Fin 128 => (v (ix2 (y 0) k) : EReal)))) := by
    unfold inv
    rw [← h]
    unfold k0_pay28
    generalize k0_pay27 (F := Ideal) (absf v) = e
    refine (hb _ _ _ _).trans ?_
    simp only [sel_at, cmp_at, or_at, mul_at, add_at, sub_at, div_at, max_at, min_at, log_at, exp2_at, floor_at, round_at, toi_at, bc_at, const_at, const_at']
    unfold clip rpow
    with_reducible rfl
  refine hk.trans (congrArg (fun a => clip (a * inv (amax (fun k : Fin 128 => (v (ix2 (y 0) k) : EReal))))) ?_)
  exact congrArg v (eq_ix2 y)

/-- The scales of the rows of h, in every lane. -/
theorem pay3_apply (v : FVec Ideal S4096x128 .f32) (y : S4096x128.Idx) :
    k0_pay3 (F := Ideal) (k0_pay27 (absf v)) (k0_pay29 (absf v)) k0_pay30 y = scale (amax (fun k : Fin 128 => (v (ix2 (y 0) k) : EReal))) := by
  have h : k0_pay27 (F := Ideal) (absf v) (ix2 (y 0) 0) = rexp (amax (fun k : Fin 128 => (v (ix2 (y 0) k) : EReal))) := pay27_apply v (ix2 (y 0) 0)
  unfold scale
  rw [← h]
  have hb : ∀ b : FVec Ideal S4096x1 .f32, broadcastTo S4096x128 (shapeCast S4096x1 b shapeCasts_S4096x1_S4096x1) broadcasts_S4096x1_S4096x128 y = b (ix2 (y 0) 0) := by
    intro b
    pointwise []
  unfold k0_pay3 k0_pay29 k0_pay30
  rw [hb]
  generalize k0_pay27 (F := Ideal) (absf v) = e
  simp only [sel_at, cmp_at, or_at, mul_at, add_at, sub_at, div_at, max_at, min_at, log_at, exp2_at, floor_at, round_at, toi_at, bc_at, const_at, const_at']
  unfold rpow
  with_reducible rfl
end Cert.FrontValue.Reference
-- ==== Proof.FrontRefTenant.lean ====
/-
  The reference's adapter product: for every tenant in turn the rows that carry its number take their product with its
  block, so that at the end each row holds the product with its own tenant's block, and zero if it has none.
-/
module

public import proofs.«01_k».proof.Proof.FrontSpec
public import proofs.«01_k».proof.Proof.Gen.FrontRefIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FrontValue.Reference
open Cert.FrontRefIdeal Cert.FrontRefIdeal.Gen

/-- A row's tenant number, in every lane. -/
theorem tt_apply (x0 : Vec Ideal S4096x1 .i32) (y : S4096x128.Idx) : k0_pay13 (F := Ideal) x0 y = x0 (ix2 (y 0) 0) := by
  pointwise [k0_pay13]

/-- One tenant's step. -/
theorem sel_block (c : IVec S4096x128 1) (zb : FVec Ideal S4096x128 .bf16) (zs : FVec Ideal S4096x1 .f32)
    (sg : Vec Ideal S1x128x128 .i8) (ss : Vec Ideal S1x128 .f32) (acc : FVec Ideal S4096x128 .f32) (y : S4096x128.Idx) :
    select c (mulf (F := Ideal) (φ := .f32) (mulf (matmul dot_S4096x128_S128x128_S4096x128_1_0_0_1_n_n none zb
        (truncf (F := Ideal) .bf16 (sitofp .f32 (shapeCast S128x128 sg shapeCasts_S1x128x128_S128x128 : IVec S128x128 8)) bitsLt_bf16_f32)
        (constant S4096x128 .f32 0x00000000#32)) (broadcastTo S4096x128 zs broadcasts_S4096x1_S4096x128))
        (broadcastTo S4096x128 ss broadcasts_S1x128_S4096x128)) acc y
      = Scalar.select (c y) ((∑ k : Fin 128, zb (ix2 (y 0) k) * (((sg (ix3 0 k (y 1))).toInt : ℝ) : EReal)) * zs (ix2 (y 0) 0)
          * ss (ix2 0 (y 1))) (acc y) := by
  have h : mulf (F := Ideal) (φ := .f32) (mulf (matmul dot_S4096x128_S128x128_S4096x128_1_0_0_1_n_n none zb
        (truncf (F := Ideal) .bf16 (sitofp .f32 (shapeCast S128x128 sg shapeCasts_S1x128x128_S128x128 : IVec S128x128 8)) bitsLt_bf16_f32)
        (constant S4096x128 .f32 0x00000000#32)) (broadcastTo S4096x128 zs broadcasts_S4096x1_S4096x128))
        (broadcastTo S4096x128 ss broadcasts_S1x128_S4096x128) y
      = (∑ k : Fin 128, zb (ix2 (y 0) k) * (((sg (ix3 0 k (y 1))).toInt : ℝ) : EReal)) * zs (ix2 (y 0) 0)
          * ss (ix2 0 (y 1)) := by
    pointwise []
    first | done | rfl
  exact congrArg (fun a => Scalar.select (c y) a (acc y)) h

/-- The scales of tenant `n`, loaded from all of them. -/
theorem row_at (x5 : Vec Ideal S33x128 .f32) (n : Nat) (hn : n < 33) (c : Fin 128)
    (h : ∀ a, ![n, 0] a + ![1, 128] a ≤ S33x128.size a) :
    View.ld x5 (Rect.unit ![n, 0] ![1, 128] h) (ix2 0 c) = x5 (ix2 (Fin.ofNat 33 n) c) := by
  pointwise []
  exact congrArg (fun a => x5 (ix2 a c)) (Fin.ext (Nat.mod_eq_of_lt hn).symm)

/-- The block of tenant `n`, loaded from all of them. -/
theorem block_at (x4 : Vec Ideal S33x128x128 .i8) (n : Nat) (hn : n < 33) (k c : Fin 128)
    (h : ∀ a, ![n, 0, 0] a + ![1, 128, 128] a ≤ S33x128x128.size a) :
    View.ld x4 (Rect.unit ![n, 0, 0] ![1, 128, 128] h) (ix3 0 k c) = x4 (ix3 (Fin.ofNat 33 n) k c) := by
  pointwise []
  exact congrArg (fun a => x4 (ix3 a k c)) (Fin.ext (Nat.mod_eq_of_lt hn).symm)

/-- One entry of one row's product with tenant `t`'s block, scaled. -/
def entry (zb : FVec Ideal S4096x128 .bf16) (zs : FVec Ideal S4096x1 .f32) (x4 : Vec Ideal S33x128x128 .i8)
    (x5 : Vec Ideal S33x128 .f32) (y : S4096x128.Idx) (t : Fin 33) : EReal :=
  (∑ k : Fin 128, zb (ix2 (y 0) k) * (((x4 (ix3 t k (y 1))).toInt : ℝ) : EReal)) * zs (ix2 (y 0) 0) * x5 (ix2 t (y 1))

/-- One tenant's step, the tenant's block and scales read from all of them. -/
theorem step_block (x4 : Vec Ideal S33x128x128 .i8) (x5 : Vec Ideal S33x128 .f32) (c : IVec S4096x128 1) (zb : FVec Ideal S4096x128 .bf16) (zs : FVec Ideal S4096x1 .f32)
    (sg : Vec Ideal S1x128x128 .i8) (ss : Vec Ideal S1x128 .f32) (acc : FVec Ideal S4096x128 .f32) (y : S4096x128.Idx) (t : Fin 33)
    (hsg : ∀ k, sg (ix3 0 k (y 1)) = x4 (ix3 t k (y 1))) (hss : ss (ix2 0 (y 1)) = x5 (ix2 t (y 1))) :
    select c (mulf (F := Ideal) (φ := .f32) (mulf (matmul dot_S4096x128_S128x128_S4096x128_1_0_0_1_n_n none zb
        (truncf (F := Ideal) .bf16 (sitofp .f32 (shapeCast S128x128 sg shapeCasts_S1x128x128_S128x128 : IVec S128x128 8)) bitsLt_bf16_f32)
        (constant S4096x128 .f32 0x00000000#32)) (broadcastTo S4096x128 zs broadcasts_S4096x1_S4096x128))
        (broadcastTo S4096x128 ss broadcasts_S1x128_S4096x128)) acc y
      = Scalar.select (c y) (entry zb zs x4 x5 y t) (acc y) := by
  rw [sel_block, hss]
  unfold entry
  simp only [hsg]

/-- One tenant's step on whole arrays: the rows of tenant `n` take their product with the block `sg`, scaled. -/
abbrev try1 (n : BitVec 32) (zs : FVec Ideal S4096x1 .f32) (zb : FVec Ideal S4096x128 .bf16) (tt : IVec S4096x128 32)
    (acc : FVec Ideal S4096x128 .f32) (sg : Vec Ideal S1x128x128 .i8) (ss : Vec Ideal S1x128 .f32) : FVec Ideal S4096x128 .f32 :=
  select (cmpi .eq tt (broadcast S4096x128 n)) (mulf (F := Ideal) (φ := .f32) (mulf (matmul dot_S4096x128_S128x128_S4096x128_1_0_0_1_n_n none zb
        (truncf (F := Ideal) .bf16 (sitofp .f32 (shapeCast S128x128 sg shapeCasts_S1x128x128_S128x128 : IVec S128x128 8)) bitsLt_bf16_f32)
        (constant S4096x128 .f32 0x00000000#32)) (broadcastTo S4096x128 zs broadcasts_S4096x1_S4096x128))
        (broadcastTo S4096x128 ss broadcasts_S1x128_S4096x128)) acc

/-- The type of three tenants' steps in a row: the scales, the codes, the tenants, the array so far, and each tenant's block and scales. -/
abbrev Step3 : Type :=
  FVec Ideal S4096x1 .f32 → FVec Ideal S4096x128 .bf16 → IVec S4096x128 32 → FVec Ideal S4096x128 .f32 →
  Vec Ideal S1x128x128 .i8 → Vec Ideal S1x128 .f32 → Vec Ideal S1x128x128 .i8 → Vec Ideal S1x128 .f32 →
  Vec Ideal S1x128x128 .i8 → Vec Ideal S1x128 .f32 → FVec Ideal S4096x128 .f32

/-- `p`, given the blocks and scales of the tenants `n`, `n + 1` and `n + 2`, tries these three after the first `n`. -/
def Tries (n : Nat) (p : Step3) : Prop :=
  n + 2 < 33 → ∀ (x4 : Vec Ideal S33x128x128 .i8) (x5 : Vec Ideal S33x128 .f32) (zs : FVec Ideal S4096x1 .f32)
    (zb : FVec Ideal S4096x128 .bf16) (tt : IVec S4096x128 32) (acc : FVec Ideal S4096x128 .f32)
    (b0 : ∀ a, ![n, 0, 0] a + ![1, 128, 128] a ≤ S33x128x128.size a) (c0 : ∀ a, ![n, 0] a + ![1, 128] a ≤ S33x128.size a)
    (b1 : ∀ a, ![n + 1, 0, 0] a + ![1, 128, 128] a ≤ S33x128x128.size a) (c1 : ∀ a, ![n + 1, 0] a + ![1, 128] a ≤ S33x128.size a)
    (b2 : ∀ a, ![n + 2, 0, 0] a + ![1, 128, 128] a ≤ S33x128x128.size a) (c2 : ∀ a, ![n + 2, 0] a + ![1, 128] a ≤ S33x128.size a)
    (y : S4096x128.Idx), acc y = chain (tt y) (entry zb zs x4 x5 y) n →
    p zs zb tt acc (View.ld x4 (Rect.unit ![n, 0, 0] ![1, 128, 128] b0)) (View.ld x5 (Rect.unit ![n, 0] ![1, 128] c0))
      (View.ld x4 (Rect.unit ![n + 1, 0, 0] ![1, 128, 128] b1)) (View.ld x5 (Rect.unit ![n + 1, 0] ![1, 128] c1))
      (View.ld x4 (Rect.unit ![n + 2, 0, 0] ![1, 128, 128] b2)) (View.ld x5 (Rect.unit ![n + 2, 0] ![1, 128] c2)) y
      = chain (tt y) (entry zb zs x4 x5 y) (n + 3)

/-- Three tenants' steps, one after the other, try the three tenants. -/
theorem tries (n : Nat) : Tries n fun zs zb tt acc g0 s0 g1 s1 g2 s2 =>
    try1 (BitVec.ofNat 32 (n + 2)) zs zb tt (try1 (BitVec.ofNat 32 (n + 1)) zs zb tt
      (try1 (BitVec.ofNat 32 n) zs zb tt acc g0 s0) g1 s1) g2 s2 := by
  intro hn x4 x5 zs zb tt acc b0 c0 b1 c1 b2 c2 y hacc
  have g := fun (i : Nat) (hi : i < 33) hb k => block_at x4 i hi k (y 1) hb
  have s := fun (i : Nat) (hi : i < 33) hb => row_at x5 i hi (y 1) hb
  unfold try1
  beta_reduce
  rw [step_block x4 x5 _ _ _ _ _ _ _ _ (g (n + 2) hn b2) (s (n + 2) hn c2),
    step_block x4 x5 _ _ _ _ _ _ _ _ (g (n + 1) (by omega) b1) (s (n + 1) (by omega) c1),
    step_block x4 x5 _ _ _ _ _ _ _ _ (g n (by omega) b0) (s n (by omega) c0), hacc]
  exact rfl

/-! The reference's tenants, three at a time. -/

/-- Tenants 0 to 2. -/
theorem pay15_apply : Tries 0 (k0_pay15 (F := Ideal)) := tries 0
/-- Tenants 3 to 5. -/
theorem pay16_apply : Tries 3 (k0_pay16 (F := Ideal)) := tries 3
/-- Tenants 6 to 8. -/
theorem pay17_apply : Tries 6 (k0_pay17 (F := Ideal)) := tries 6
/-- Tenants 9 to 11. -/
theorem pay18_apply : Tries 9 (k0_pay18 (F := Ideal)) := tries 9
/-- Tenants 12 to 14. -/
theorem pay19_apply : Tries 12 (k0_pay19 (F := Ideal)) := tries 12
/-- Tenants 15 to 17. -/
theorem pay20_apply : Tries 15 (k0_pay20 (F := Ideal)) := tries 15
/-- Tenants 18 to 20. -/
theorem pay21_apply : Tries 18 (k0_pay21 (F := Ideal)) := tries 18
/-- Tenants 21 to 23. -/
theorem pay22_apply : Tries 21 (k0_pay22 (F := Ideal)) := tries 21
/-- Tenants 24 to 26. -/
theorem pay23_apply : Tries 24 (k0_pay23 (F := Ideal)) := tries 24
/-- Tenants 27 to 29. -/
theorem pay24_apply : Tries 27 (k0_pay24 (F := Ideal)) := tries 27
/-- Tenants 30 to 32. -/
theorem pay25_apply : Tries 30 (k0_pay25 (F := Ideal)) := tries 30

/-- One piece of the reference, applied: the tenants tried before it, then the three it tries. -/
theorem Tries.step {n : Nat} {p : Step3} (h : Tries n p) (hn : n + 2 < 33) (x4 : Vec Ideal S33x128x128 .i8)
    (x5 : Vec Ideal S33x128 .f32) {zs : FVec Ideal S4096x1 .f32} {zb : FVec Ideal S4096x128 .bf16} {tt : IVec S4096x128 32}
    {acc : FVec Ideal S4096x128 .f32} (y : S4096x128.Idx) (hacc : acc y = chain (tt y) (entry zb zs x4 x5 y) n) {b0 c0 b1 c1 b2 c2} :
    p zs zb tt acc (View.ld x4 (Rect.unit ![n, 0, 0] ![1, 128, 128] b0)) (View.ld x5 (Rect.unit ![n, 0] ![1, 128] c0))
      (View.ld x4 (Rect.unit ![n + 1, 0, 0] ![1, 128, 128] b1)) (View.ld x5 (Rect.unit ![n + 1, 0] ![1, 128] c1))
      (View.ld x4 (Rect.unit ![n + 2, 0, 0] ![1, 128, 128] b2)) (View.ld x5 (Rect.unit ![n + 2, 0] ![1, 128] c2)) y
      = chain (tt y) (entry zb zs x4 x5 y) (n + 3) :=
  h hn x4 x5 zs zb tt acc b0 c0 b1 c1 b2 c2 y hacc

end Cert.FrontValue.Reference
-- ==== Proof.FrontRefHidden.lean ====
/-
  The front reference's six results at an index, from its whole arguments.
-/
module

public import proofs.«01_k».proof.Proof.FrontRefRows
public import proofs.«01_k».proof.Proof.FrontRefTenant
public import proofs.«01_k».proof.Proof.Gen.FrontRefIdeal.Frame

@[expose] public section

set_option maxRecDepth 16384

noncomputable section

open Idealize.ShloMosaic Idealize.ShloMosaic.TcCoe Idealize.SL.Sem

namespace Cert.FrontValue.Reference
open Cert.FrontRefIdeal Cert.FrontRefIdeal.Gen

variable (x0 : Vec Ideal S4096x1 .i32) (x1 : Vec Ideal S4096x7168 .bf16) (x2 : Vec Ideal S128x7168 .fp8e4m3)
  (x3 : Vec Ideal S1x128 .f32) (x4 : Vec Ideal S33x128x128 .i8) (x5 : Vec Ideal S33x128 .f32)

/-- Loading all of the tenant numbers. -/
theorem ld0 : View.ld x0 r0_3 = x0 := View.ld_unit_lit' _ _ (by decide)
/-- Loading all of x. -/
theorem ld1 : View.ld x1 r0_0 = x1 := View.ld_unit_lit' _ _ (by decide)
/-- Loading all of v. -/
theorem ld2 : View.ld x2 r0_1 = x2 := View.ld_unit_lit' _ _ (by decide)
/-- Loading all of v's scales. -/
theorem ld3 : View.ld x3 r0_2 = x3 := View.ld_unit_lit' _ _ (by decide)

/-- The exponents of the rows of x. -/
theorem e31 : k0_pay31 (F := Ideal) x0 x1 x2 x3 x4 x5 = k0_pay5 x1 := by unfold k0_pay31; rw [ld1]
/-- The codes of x. -/
theorem e32 : k0_pay32 (F := Ideal) x0 x1 x2 x3 x4 x5 = k0_pay6 x1 := by unfold k0_pay32; rw [ld1]
/-- The scales of z. -/
theorem e33 : k0_pay33 (F := Ideal) x0 x1 x2 x3 x4 x5 = ZS x1 x2 x3 := by
  unfold k0_pay33 ZS
  rw [ld2, ld3, e31, e32]
/-- The codes of z as bf16. -/
theorem e34 : k0_pay34 (F := Ideal) x0 x1 x2 x3 x4 x5 = ZB x1 x2 x3 := by
  unfold k0_pay34 ZB
  rw [ld2, ld3, e31, e32]
/-- A row's tenant number, in every lane. -/
theorem e35 (y : S4096x128.Idx) : k0_pay35 (F := Ideal) x0 x1 x2 x3 x4 x5 y = x0 (ix2 (y 0) 0) := by
  unfold k0_pay35
  rw [ld0]
  exact tt_apply x0 y

/-- The first thirty tenants tried. -/
theorem e36 (y : S4096x128.Idx) : k0_pay36 (F := Ideal) x0 x1 x2 x3 x4 x5 y
    = chain (k0_pay35 (F := Ideal) x0 x1 x2 x3 x4 x5 y)
        (entry (k0_pay34 (F := Ideal) x0 x1 x2 x3 x4 x5) (k0_pay33 (F := Ideal) x0 x1 x2 x3 x4 x5) x4 x5 y) 30 := by
  unfold k0_pay36
  refine pay24_apply.step (by decide) x4 x5 y ?_
  refine pay23_apply.step (by decide) x4 x5 y ?_
  refine pay22_apply.step (by decide) x4 x5 y ?_
  refine pay21_apply.step (by decide) x4 x5 y ?_
  refine pay20_apply.step (by decide) x4 x5 y ?_
  refine pay19_apply.step (by decide) x4 x5 y ?_
  refine pay18_apply.step (by decide) x4 x5 y ?_
  refine pay17_apply.step (by decide) x4 x5 y ?_
  refine pay16_apply.step (by decide) x4 x5 y ?_
  refine pay15_apply.step (by decide) x4 x5 y ?_
  rfl

/-- The scaled block product. -/
def H : FVec Ideal S4096x128 .f32 :=
  k0_pay25 (F := Ideal) (k0_pay33 x0 x1 x2 x3 x4 x5) (k0_pay34 x0 x1 x2 x3 x4 x5) (k0_pay35 x0 x1 x2 x3 x4 x5) (k0_pay36 x0 x1 x2 x3 x4 x5) (View.ld x4 r0_64) (View.ld x5 r0_65) (View.ld x4 r0_66) (View.ld x5 r0_67) (View.ld x4 r0_68) (View.ld x5 r0_69)

/-- The magnitudes of h. -/
theorem e37 : k0_pay37 (F := Ideal) x0 x1 x2 x3 x4 x5 = absf (F := Ideal) (H x0 x1 x2 x3 x4 x5) := (rfl)

/-- Row `r`'s product. -/
abbrev hr (r : Fin 4096) : Fin 128 → EReal :=
  hrow (zr x1 x2 x3 r) (x0 (ix2 r 0)) (fun t k c => x4 (ix3 t k c)) (fun t c => x5 (ix2 t c))

/-- A row of h. -/
theorem H_apply (y : S4096x128.Idx) : H x0 x1 x2 x3 x4 x5 y = hr x0 x1 x2 x3 x4 x5 (y 0) (y 1) := by
  unfold H
  refine (pay25_apply.step (by decide) x4 x5 y (e36 x0 x1 x2 x3 x4 x5 y)).trans ?_
  rw [chain_pick, e33, e34, e35]
  refine congrArg (pick (x0 (ix2 (y 0) 0))) (funext fun t => ?_)
  unfold entry
  refine congrArg₂ (fun a b => a * b * x5 (ix2 t (y 1))) (Finset.sum_congr rfl fun k _ => ?_) (ZS_apply x1 x2 x3 (ix2 (y 0) 0))
  exact congrArg (fun a => a * (((x4 (ix3 t k (y 1))).toInt : ℝ) : EReal)) (ZB_apply x1 x2 x3 (ix2 (y 0) k))

/-! ## The six results -/

/-- The codes of x, from the arguments. -/
theorem out6 (y : S4096x7168.Idx) : out0_6 (F := Ideal) x0 x1 x2 x3 x4 x5 y = codes (xrow x1 (y 0)) (y 1) := by
  unfold out0_6
  rw [e32]
  refine Eq.trans ?_ (pay7_apply x1 y)
  generalize k0_pay7 (F := Ideal) (k0_pay6 x1) = a
  canon_tiles x h
  all_goals blk_point []

/-- One store of the whole array leaves what it stores. -/
theorem canon_whole {e : EltTy} (a : Vec Ideal S4096x128 e) (y : S4096x128.Idx) :
    View.canon [(⟨r0_70, a⟩ : View.Piece (Elt Ideal) S4096x128 e)] y = a y := by
  canon_tiles x h
  all_goals blk_point []

/-- The scales of x, from the arguments. -/
theorem out7 (y : S4096x128.Idx) : out0_7 (F := Ideal) x0 x1 x2 x3 x4 x5 y = scale (amax (xrow x1 (y 0))) := by
  unfold out0_7
  rw [e31]
  exact (canon_whole _ y).trans (xs_apply x1 y)

/-- The codes of z, from the arguments. -/
theorem out8 (y : S4096x128.Idx) : out0_8 (F := Ideal) x0 x1 x2 x3 x4 x5 y = Ideal.fptosi 8 (zquant (zr x1 x2 x3 (y 0)) (y 1)) := by
  unfold out0_8
  rw [e31, e32, ld2, ld3]
  exact (canon_whole _ y).trans (zc_apply x1 x2 x3 y)

/-- The scales of z, from the arguments. -/
theorem out9 (y : S4096x128.Idx) : out0_9 (F := Ideal) x0 x1 x2 x3 x4 x5 y = zscale (zr x1 x2 x3 (y 0)) := by
  unfold out0_9
  rw [e33]
  exact (canon_whole _ y).trans (zs_apply x1 x2 x3 y)

/-- The codes of h, from the arguments. -/
theorem out10 (y : S4096x128.Idx) : out0_10 (F := Ideal) x0 x1 x2 x3 x4 x5 y = codes (hr x0 x1 x2 x3 x4 x5 (y 0)) (y 1) := by
  have h : (fun k : Fin 128 => (H x0 x1 x2 x3 x4 x5 (ix2 (y 0) k) : EReal)) = hr x0 x1 x2 x3 x4 x5 (y 0) :=
    funext fun k => H_apply x0 x1 x2 x3 x4 x5 (ix2 (y 0) k)
  unfold out0_10
  refine (canon_whole _ y).trans ?_
  rw [e37]
  exact (pay28_apply (H x0 x1 x2 x3 x4 x5) y).trans (congrArg (fun z => codes z (y 1)) h)

/-- The scales of h, from the arguments. -/
theorem out11 (y : S4096x128.Idx) : out0_11 (F := Ideal) x0 x1 x2 x3 x4 x5 y = scale (amax (hr x0 x1 x2 x3 x4 x5 (y 0))) := by
  have h : (fun k : Fin 128 => (H x0 x1 x2 x3 x4 x5 (ix2 (y 0) k) : EReal)) = hr x0 x1 x2 x3 x4 x5 (y 0) :=
    funext fun k => H_apply x0 x1 x2 x3 x4 x5 (ix2 (y 0) k)
  unfold out0_11
  refine (canon_whole _ y).trans ?_
  rw [e37]
  exact (pay3_apply (H x0 x1 x2 x3 x4 x5) y).trans (congrArg (fun z => scale (amax z)) h)

end Cert.FrontValue.Reference
-- ==== Proof.FrontRefFinal.lean ====
/-
  The front reference's six result arrays, as functions of its argument arrays.
-/
module

public import proofs.«01_k».proof.Proof.FrontRefHidden

@[expose] public section

set_option maxRecDepth 16384

noncomputable section

open Idealize.ShloMosaic Idealize.ShloMosaic.TcCoe Idealize.SL.Sem
open Idealize.ShloMosaic.Pipeline (Dat)

namespace Cert.FrontValue.Reference
open Cert.FrontRefIdeal Cert.FrontRefIdeal.Gen

variable (m : (ℓ : Loc nD τ sig) → Buf (Elt Ideal) ℓ) (c : Dev nD)

/-- The reference has one grid point, and every block starts at zero. -/
theorem idx : win0_0.index t0_0 = ![0, 0] ∧ win0_1.index t0_0 = ![0, 0] ∧ win0_2.index t0_0 = ![0, 0] ∧ win0_3.index t0_0 = ![0, 0]
    ∧ win0_4.index t0_0 = ![0, 0, 0] ∧ win0_5.index t0_0 = ![0, 0] := by
  decide +kernel

/-! ## At that point each input window's block is its whole array -/

/-- The block of argument 0 is the whole array. -/
theorem blk0 : iblk m c 0 t0_0 = m ((c : Thread nD τ).loc main_arg0) := by
  funext y
  blk_point [iblk, V, idx]
/-- The block of argument 1 is the whole array. -/
theorem blk1 : iblk m c 1 t0_0 = m ((c : Thread nD τ).loc main_arg1) := by
  funext y
  blk_point [iblk, V, idx]
/-- The block of argument 2 is the whole array. -/
theorem blk2 : iblk m c 2 t0_0 = m ((c : Thread nD τ).loc main_arg2) := by
  funext y
  blk_point [iblk, V, idx]
/-- The block of argument 3 is the whole array. -/
theorem blk3 : iblk m c 3 t0_0 = m ((c : Thread nD τ).loc main_arg3) := by
  funext y
  blk_point [iblk, V, idx]
/-- The block of argument 4 is the whole array. -/
theorem blk4 : iblk m c 4 t0_0 = m ((c : Thread nD τ).loc main_arg4) := by
  funext y
  blk_point [iblk, V, idx]
/-- The block of argument 5 is the whole array. -/
theorem blk5 : iblk m c 5 t0_0 = m ((c : Thread nD τ).loc main_arg5) := by
  funext y
  blk_point [iblk, V, idx]

/-! ## The arrays -/

/-- The reference's array of the codes of x. -/
theorem final6 : (dats m 0 c).arrAt 6 (cfgs 0).N
    = fun i : S4096x7168.Idx => codes (xrow (m ((c : Thread nD τ).loc main_arg1)) (i 0)) (i 1) := by
  refine (dats m 0 c).arrAt_eq_of_after_last 6 t0_0 (by decide +kernel) _ fun j => ?_
  blk_simp
  rw [after0_6]
  refine (out6 _ _ _ _ _ _ j).trans ?_
  rw [blk1]

/-- The reference's array of the scales of x. -/
theorem final7 : (dats m 0 c).arrAt 7 (cfgs 0).N
    = fun i : S4096x128.Idx => scale (amax (xrow (m ((c : Thread nD τ).loc main_arg1)) (i 0))) := by
  refine (dats m 0 c).arrAt_eq_of_after_last 7 t0_0 (by decide +kernel) _ fun j => ?_
  blk_simp
  rw [after0_7]
  refine (out7 _ _ _ _ _ _ j).trans ?_
  rw [blk1]

/-- The reference's array of the codes of z. -/
theorem final8 : (dats m 0 c).arrAt 8 (cfgs 0).N
    = fun i : S4096x128.Idx => Ideal.fptosi 8 (zquant (zr (m ((c : Thread nD τ).loc main_arg1)) (m ((c : Thread nD τ).loc main_arg2)) (m ((c : Thread nD τ).loc main_arg3)) (i 0)) (i 1)) := by
  refine (dats m 0 c).arrAt_eq_of_after_last 8 t0_0 (by decide +kernel) _ fun j => ?_
  blk_simp
  rw [after0_8]
  refine (out8 _ _ _ _ _ _ j).trans ?_
  rw [blk1, blk2, blk3]

/-- The reference's array of the scales of z. -/
theorem final9 : (dats m 0 c).arrAt 9 (cfgs 0).N
    = fun i : S4096x128.Idx => zscale (zr (m ((c : Thread nD τ).loc main_arg1)) (m ((c : Thread nD τ).loc main_arg2)) (m ((c : Thread nD τ).loc main_arg3)) (i 0)) := by
  refine (dats m 0 c).arrAt_eq_of_after_last 9 t0_0 (by decide +kernel) _ fun j => ?_
  blk_simp
  rw [after0_9]
  refine (out9 _ _ _ _ _ _ j).trans ?_
  rw [blk1, blk2, blk3]

/-- The reference's array of the codes of h. -/
theorem final10 : (dats m 0 c).arrAt 10 (cfgs 0).N
    = fun i : S4096x128.Idx => codes (hr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0)) (i 1) := by
  refine (dats m 0 c).arrAt_eq_of_after_last 10 t0_0 (by decide +kernel) _ fun j => ?_
  blk_simp
  rw [after0_10]
  refine (out10 _ _ _ _ _ _ j).trans ?_
  rw [blk0, blk1, blk2, blk3, blk4, blk5]

/-- The reference's array of the scales of h. -/
theorem final11 : (dats m 0 c).arrAt 11 (cfgs 0).N
    = fun i : S4096x128.Idx => scale (amax (hr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0))) := by
  refine (dats m 0 c).arrAt_eq_of_after_last 11 t0_0 (by decide +kernel) _ fun j => ?_
  blk_simp
  rw [after0_11]
  refine (out11 _ _ _ _ _ _ j).trans ?_
  rw [blk0, blk1, blk2, blk3, blk4, blk5]

end Cert.FrontValue.Reference
-- ==== Proof.FrontClaim.lean ====
/-
  The value claim of the front call: its ideal program and the reference's leave the same six result arrays.
-/
module

public import proofs.«01_k».proof.Proof.FrontFinal
public import proofs.«01_k».proof.Proof.FrontRefFinal
public import proofs.«01_k».proof.Defs
public import Idealize.ShloMosaic.Lib.Claim

@[expose] public section

set_option maxRecDepth 16384

noncomputable section

namespace Cert.FrontValue

open Idealize.ShloMosaic Idealize.ShloMosaic.TcCoe Idealize.SL.Sem

/-- The kernel's run ends with the arrays its blocks make up, and leaves the arguments. -/
theorem ker_run (m : (ℓ : Loc Cert.FrontIdeal.nD Cert.FrontIdeal.τ Cert.FrontIdeal.sig) → Buf (Elt Ideal) ℓ)
    (g : Dev Cert.FrontIdeal.nD → PrngReg) :
    θ_run (Cert.FrontIdeal.defs (F := Ideal)) (onTc (τ := Cert.FrontIdeal.τ) (Cert.FrontIdeal.main (F := Ideal)))
      ⟨m, fun _ => 0, g⟩ (fun r => ∀ c : Dev Cert.FrontIdeal.nD,
      r.2.mem ((c.tc : Thread Cert.FrontIdeal.nD Cert.FrontIdeal.τ).loc Cert.FrontIdeal.main_v0_0) = (Cert.FrontIdeal.Gen.dats m 0 c).arrAt 6 (Cert.FrontIdeal.cfgs 0).N
      ∧ r.2.mem ((c.tc : Thread Cert.FrontIdeal.nD Cert.FrontIdeal.τ).loc Cert.FrontIdeal.main_v0_1) = (Cert.FrontIdeal.Gen.dats m 0 c).arrAt 7 (Cert.FrontIdeal.cfgs 0).N
      ∧ r.2.mem ((c.tc : Thread Cert.FrontIdeal.nD Cert.FrontIdeal.τ).loc Cert.FrontIdeal.main_v0_2) = (Cert.FrontIdeal.Gen.dats m 0 c).arrAt 8 (Cert.FrontIdeal.cfgs 0).N
      ∧ r.2.mem ((c.tc : Thread Cert.FrontIdeal.nD Cert.FrontIdeal.τ).loc Cert.FrontIdeal.main_v0_3) = (Cert.FrontIdeal.Gen.dats m 0 c).arrAt 9 (Cert.FrontIdeal.cfgs 0).N
      ∧ r.2.mem ((c.tc : Thread Cert.FrontIdeal.nD Cert.FrontIdeal.τ).loc Cert.FrontIdeal.main_v0_4) = (Cert.FrontIdeal.Gen.dats m 0 c).arrAt 10 (Cert.FrontIdeal.cfgs 0).N
      ∧ r.2.mem ((c.tc : Thread Cert.FrontIdeal.nD Cert.FrontIdeal.τ).loc Cert.FrontIdeal.main_v0_5) = (Cert.FrontIdeal.Gen.dats m 0 c).arrAt 11 (Cert.FrontIdeal.cfgs 0).N
      ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)) := by
  run_from Cert.FrontIdeal.Gen.run_main m g

/-- The reference's run ends with the arrays its blocks make up, and leaves the arguments. -/
theorem ref_run (m : (ℓ : Loc Cert.FrontRefIdeal.nD Cert.FrontRefIdeal.τ Cert.FrontRefIdeal.sig) → Buf (Elt Ideal) ℓ)
    (g : Dev Cert.FrontRefIdeal.nD → PrngReg) :
    θ_run (Cert.FrontRefIdeal.defs (F := Ideal)) (onTc (τ := Cert.FrontRefIdeal.τ) (Cert.FrontRefIdeal.main (F := Ideal)))
      ⟨m, fun _ => 0, g⟩ (fun r => ∀ c : Dev Cert.FrontRefIdeal.nD,
      r.2.mem ((c.tc : Thread Cert.FrontRefIdeal.nD Cert.FrontRefIdeal.τ).loc Cert.FrontRefIdeal.main_v0_0) = (Cert.FrontRefIdeal.Gen.dats m 0 c).arrAt 6 (Cert.FrontRefIdeal.cfgs 0).N
      ∧ r.2.mem ((c.tc : Thread Cert.FrontRefIdeal.nD Cert.FrontRefIdeal.τ).loc Cert.FrontRefIdeal.main_v0_1) = (Cert.FrontRefIdeal.Gen.dats m 0 c).arrAt 7 (Cert.FrontRefIdeal.cfgs 0).N
      ∧ r.2.mem ((c.tc : Thread Cert.FrontRefIdeal.nD Cert.FrontRefIdeal.τ).loc Cert.FrontRefIdeal.main_v0_2) = (Cert.FrontRefIdeal.Gen.dats m 0 c).arrAt 8 (Cert.FrontRefIdeal.cfgs 0).N
      ∧ r.2.mem ((c.tc : Thread Cert.FrontRefIdeal.nD Cert.FrontRefIdeal.τ).loc Cert.FrontRefIdeal.main_v0_3) = (Cert.FrontRefIdeal.Gen.dats m 0 c).arrAt 9 (Cert.FrontRefIdeal.cfgs 0).N
      ∧ r.2.mem ((c.tc : Thread Cert.FrontRefIdeal.nD Cert.FrontRefIdeal.τ).loc Cert.FrontRefIdeal.main_v0_4) = (Cert.FrontRefIdeal.Gen.dats m 0 c).arrAt 10 (Cert.FrontRefIdeal.cfgs 0).N
      ∧ r.2.mem ((c.tc : Thread Cert.FrontRefIdeal.nD Cert.FrontRefIdeal.τ).loc Cert.FrontRefIdeal.main_v0_5) = (Cert.FrontRefIdeal.Gen.dats m 0 c).arrAt 11 (Cert.FrontRefIdeal.cfgs 0).N
      ∧ r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)) := by
  run_from Cert.FrontRefIdeal.Gen.run_main m g

variable (m : (ℓ : Loc Cert.FrontIdeal.nD Cert.FrontIdeal.τ Cert.FrontIdeal.sig) → Buf (Elt Ideal) ℓ)
  (m' : (ℓ : Loc Cert.FrontRefIdeal.nD Cert.FrontRefIdeal.τ Cert.FrontRefIdeal.sig) → Buf (Elt Ideal) ℓ)
  (c : Dev Cert.FrontIdeal.nD)

/-- The codes of x are the same array in both programs when the arguments agree. -/
theorem same6
    (a1 : m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1))
    : (Cert.FrontRefIdeal.Gen.dats m' 0 c).arrAt 6 (Cert.FrontRefIdeal.cfgs 0).N
      = (Cert.FrontIdeal.Gen.dats m 0 c).arrAt 6 (Cert.FrontIdeal.cfgs 0).N := by
  rw [Reference.final6 m' c, Kernel.final6 m c]
  rw [a1]

/-- The scales of x are the same array in both programs when the arguments agree. -/
theorem same7
    (a1 : m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1))
    : (Cert.FrontRefIdeal.Gen.dats m' 0 c).arrAt 7 (Cert.FrontRefIdeal.cfgs 0).N
      = (Cert.FrontIdeal.Gen.dats m 0 c).arrAt 7 (Cert.FrontIdeal.cfgs 0).N := by
  rw [Reference.final7 m' c, Kernel.final7 m c]
  rw [a1]

/-- The codes of z are the same array in both programs when the arguments agree. -/
theorem same8
    (a1 : m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1))
    (a2 : m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2))
    (a3 : m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3))
    : (Cert.FrontRefIdeal.Gen.dats m' 0 c).arrAt 8 (Cert.FrontRefIdeal.cfgs 0).N
      = (Cert.FrontIdeal.Gen.dats m 0 c).arrAt 8 (Cert.FrontIdeal.cfgs 0).N := by
  rw [Reference.final8 m' c, Kernel.final8 m c]
  rw [a1, a2, a3]
  rfl

/-- The scales of z are the same array in both programs when the arguments agree. -/
theorem same9
    (a1 : m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1))
    (a2 : m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2))
    (a3 : m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3))
    : (Cert.FrontRefIdeal.Gen.dats m' 0 c).arrAt 9 (Cert.FrontRefIdeal.cfgs 0).N
      = (Cert.FrontIdeal.Gen.dats m 0 c).arrAt 9 (Cert.FrontIdeal.cfgs 0).N := by
  rw [Reference.final9 m' c, Kernel.final9 m c]
  rw [a1, a2, a3]
  rfl

/-- The codes of h are the same array in both programs when the arguments agree. -/
theorem same10
    (a0 : m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0))
    (a1 : m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1))
    (a2 : m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2))
    (a3 : m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3))
    (a4 : m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4))
    (a5 : m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5))
    : (Cert.FrontRefIdeal.Gen.dats m' 0 c).arrAt 10 (Cert.FrontRefIdeal.cfgs 0).N
      = (Cert.FrontIdeal.Gen.dats m 0 c).arrAt 10 (Cert.FrontIdeal.cfgs 0).N := by
  rw [Reference.final10 m' c, Kernel.final10 m c]
  rw [a0, a1, a2, a3, a4, a5]
  rfl

/-- The scales of h are the same array in both programs when the arguments agree. -/
theorem same11
    (a0 : m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0))
    (a1 : m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1))
    (a2 : m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2))
    (a3 : m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3))
    (a4 : m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4))
    (a5 : m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5))
    : (Cert.FrontRefIdeal.Gen.dats m' 0 c).arrAt 11 (Cert.FrontRefIdeal.cfgs 0).N
      = (Cert.FrontIdeal.Gen.dats m 0 c).arrAt 11 (Cert.FrontIdeal.cfgs 0).N := by
  rw [Reference.final11 m' c, Kernel.final11 m c]
  rw [a0, a1, a2, a3, a4, a5]
  rfl

/-- The front call and its reference, run from the same arguments, end with the same results and leave the arguments. -/
theorem algebraic : Cert.algebraic_FrontIdeal_FrontRefIdeal := by
  intro m g m' g' hpre hagree
  refine ⟨fun c => (Cert.FrontIdeal.Gen.dats m 0 c).arrAt 6 (Cert.FrontIdeal.cfgs 0).N,
    fun c => (Cert.FrontIdeal.Gen.dats m 0 c).arrAt 7 (Cert.FrontIdeal.cfgs 0).N,
    fun c => (Cert.FrontIdeal.Gen.dats m 0 c).arrAt 8 (Cert.FrontIdeal.cfgs 0).N,
    fun c => (Cert.FrontIdeal.Gen.dats m 0 c).arrAt 9 (Cert.FrontIdeal.cfgs 0).N,
    fun c => (Cert.FrontIdeal.Gen.dats m 0 c).arrAt 10 (Cert.FrontIdeal.cfgs 0).N,
    fun c => (Cert.FrontIdeal.Gen.dats m 0 c).arrAt 11 (Cert.FrontIdeal.cfgs 0).N, ?_, ?_⟩
  · exact ker_run m g
  · refine θ_run_mono (ref_run m' g') ?_
    intro r hr c
    obtain ⟨h0, h1, h2, h3, h4, h5, h⟩ := hr c
    obtain ⟨a0, a1, a2, a3, a4, a5⟩ := hagree c
    exact ⟨h0.trans (same6 m m' c a1), h1.trans (same7 m m' c a1), h2.trans (same8 m m' c a1 a2 a3),
      h3.trans (same9 m m' c a1 a2 a3), h4.trans (same10 m m' c a0 a1 a2 a3 a4 a5),
      h5.trans (same11 m m' c a0 a1 a2 a3 a4 a5), h⟩

end Cert.FrontValue
end
-- ==== Proof.MainValue.lean ====
/-
  What the main call computes, over the extended reals: every element of its result is the base product's entry times
  the row's and the column's scale, plus the adapter product's entry times its row's and column's scale
  (`Cert.MainValue.val`); and the reference computes the same (`final`).
-/
module

public import proofs.«01_k».proof.Proof.Gen.MainIdeal.Value
public import proofs.«01_k».proof.Proof.Gen.MainRefIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MainValue

/-- One element of the main call's result, of `N` columns: `a` the row of the codes, `w` the column of the weights, `h`
    the row of the adapter's codes, `u` the column of its weights, then the row scales and the column scales. -/
def val (a w : Fin 7168 → EReal) (h u : Fin 128 → EReal) (xs hs ws us : EReal) : EReal :=
  (∑ k : Fin 7168, a k * w k) * xs * ws + (∑ k : Fin 128, h k * u k) * hs * us

section Kernel
open Cert.MainIdeal Cert.MainIdeal.Gen

/-- What the body leaves in its output block, at row `r` and column `c` of the block, is `val` of that row and column. -/
theorem out_apply (x0 : Vec Ideal S4096x7168 .fp8e4m3) (x1 : Vec Ideal S7168x512 .fp8e4m3) (x2 : Vec Ideal S4096x128 .fp8e4m3)
    (x3 : Vec Ideal S128x512 .fp8e4m3) (x4 : Vec Ideal S4096x128 .f32) (x5 : Vec Ideal S4096x128 .f32)
    (x6 : Vec Ideal S1x512 .f32) (x7 : Vec Ideal S1x512 .f32) (y : S4096x512.Idx) :
    out0_8 (F := Ideal) x0 x1 x2 x3 x4 x5 x6 x7 y
      = val (fun k => x0 (ix2 (y 0) k)) (fun k => x1 (ix2 k (y 1))) (fun k => x2 (ix2 (y 0) k)) (fun k => x3 (ix2 k (y 1)))
          (x4 (ix2 (y 0) 0)) (x5 (ix2 (y 0) 0)) (x6 (ix2 0 (y 1))) (x7 (ix2 0 (y 1))) := by
  unfold out0_8
  canon_tiles x h
  all_goals
    pointwise [val, k0_pay1, k0_pay2, k0_pay3, k0_pay4, k0_pay5, k0_pay6, k0_pay7, k0_pay8, k0_pay9, k0_pay10, k0_pay11,
      k0_pay12, k0_pay13, k0_pay14, k0_pay15, k0_pay16]
    blk_point []

/-- Every input window's block index, and the output's: the weights and the result move along the columns. -/
theorem idx : ∀ t : Fin cfg0.N, win0_0.index t = ![0, 0] ∧ win0_1.index t = ![0, t.val] ∧ win0_2.index t = ![0, 0]
    ∧ win0_3.index t = ![0, t.val] ∧ win0_4.index t = ![0, 0] ∧ win0_5.index t = ![0, 0] ∧ win0_6.index t = ![0, t.val]
    ∧ win0_7.index t = ![0, t.val] ∧ win0_8.index t = ![0, t.val] :=
  (by decide +kernel : ∀ t : Fin grid0.N, _)

/-- The reference's result is `val` of the row and the column, everywhere. -/
theorem ref_apply (a0 : Vec Ideal S4096x7168 .fp8e4m3) (a1 : Vec Ideal S7168x18432 .fp8e4m3) (a2 : Vec Ideal S4096x128 .fp8e4m3)
    (a3 : Vec Ideal S128x18432 .fp8e4m3) (a4 : Vec Ideal S4096x128 .f32) (a5 : Vec Ideal S4096x128 .f32)
    (a6 : Vec Ideal S1x18432 .f32) (a7 : Vec Ideal S1x18432 .f32) (i : S4096x18432.Idx) :
    Cert.MainRefIdeal.Value.G8 (F := Ideal) a0 a1 a2 a3 a4 a5 a6 a7 i
      = val (fun k => a0 (ix2 (i 0) k)) (fun k => a1 (ix2 k (i 1))) (fun k => a2 (ix2 (i 0) k)) (fun k => a3 (ix2 k (i 1)))
          (a4 (ix2 (i 0) 0)) (a5 (ix2 (i 0) 0)) (a6 (ix2 0 (i 1))) (a7 (ix2 0 (i 1))) := by
  pointwise [val, Cert.MainRefIdeal.Value.G8, Cert.MainRefIdeal.Gen.k0_pay1]

/-- THE RESULT ARRAY of the main call is the reference's function of its arguments. -/
theorem final (m : (ℓ : Loc nD τ sig) → Buf (Elt Ideal) ℓ) (c : Dev nD) : (dats m 0 c).arrAt 8 (cfgs 0).N
    = Cert.MainRefIdeal.Value.G8 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  refine (out_apply _ _ _ _ _ _ _ _ y).trans (Eq.trans ?_ (ref_apply _ _ _ _ _ _ _ _ _).symm)
  unfold val
  blk_point [iblk, V, idx t] <;> refine congr_arg₂ (· * ·) ?_ ?_ <;> blk_point [iblk, V, idx t]
end Kernel

end Cert.MainValue
end
-- ==== Proof.MainClaim.lean ====
/-
  The value claim of the main call: its ideal program and the reference's leave the same result array.
-/
module

public import proofs.«01_k».proof.Proof.MainValue
public import proofs.«01_k».proof.Defs
public import Idealize.ShloMosaic.Lib.Claim

@[expose] public section

set_option maxRecDepth 16384

noncomputable section

namespace Cert.MainValue

open Idealize.ShloMosaic Idealize.ShloMosaic.TcCoe Idealize.SL.Sem

/-- The main call and its reference, run from the same arguments, end with the same result and leave the arguments. -/
theorem algebraic : Cert.algebraic_MainIdeal_MainRefIdeal := by
  pair_intro
  · run_from Cert.MainIdeal.Gen.run_main m g
  · run_from Cert.MainRefIdeal.Value.run m' g'
    exact (final m c).symm

end Cert.MainValue
end
-- ==== Proof.lean ====
/- The certificate: the frames of the kernel's two calls and of their references, that the ideal programs are the
   kernel's own, and the value claims of both calls. -/
module

public import proofs.«01_k».proof.Proof.Gen.MainIdeal.Value
public import proofs.«01_k».proof.Proof.Gen.MainRefIdeal.Value
public import proofs.«01_k».proof.Proof.FrontClaim
public import proofs.«01_k».proof.Proof.MainClaim
public import proofs.«01_k».proof.Defs
public import proofs.«01_k».proof.Proof.Gen.Front
public import proofs.«01_k».proof.Proof.Gen.Front.Skeleton
public import proofs.«01_k».proof.Proof.Gen.Front.Launch
public import proofs.«01_k».proof.Proof.Gen.Front.Points
public import proofs.«01_k».proof.Proof.Gen.Front.Frame
public import proofs.«01_k».proof.Proof.Gen.FrontRefIdeal
public import proofs.«01_k».proof.Proof.Gen.FrontRefIdeal.Skeleton
public import proofs.«01_k».proof.Proof.Gen.FrontRefIdeal.Launch
public import proofs.«01_k».proof.Proof.Gen.FrontRefIdeal.Points
public import proofs.«01_k».proof.Proof.Gen.FrontRefIdeal.Frame
public import proofs.«01_k».proof.Proof.Gen.FrontIdeal.Value
public import proofs.«01_k».proof.Proof.Gen.FrontIdeal
public import proofs.«01_k».proof.Proof.Gen.FrontIdeal.Skeleton
public import proofs.«01_k».proof.Proof.Gen.FrontIdeal.Launch
public import proofs.«01_k».proof.Proof.Gen.FrontIdeal.Points
public import proofs.«01_k».proof.Proof.Gen.FrontIdeal.Frame
public import proofs.«01_k».proof.Proof.Gen.Main
public import proofs.«01_k».proof.Proof.Gen.Main.Skeleton
public import proofs.«01_k».proof.Proof.Gen.Main.Launch
public import proofs.«01_k».proof.Proof.Gen.Main.Points
public import proofs.«01_k».proof.Proof.Gen.Main.Frame
public import proofs.«01_k».proof.Proof.Gen.MainIdeal
public import proofs.«01_k».proof.Proof.Gen.MainIdeal.Skeleton
public import proofs.«01_k».proof.Proof.Gen.MainIdeal.Launch
public import proofs.«01_k».proof.Proof.Gen.MainIdeal.Points
public import proofs.«01_k».proof.Proof.Gen.MainIdeal.Frame
public import proofs.«01_k».proof.Proof.Gen.MainRefIdeal
public import proofs.«01_k».proof.Proof.Gen.MainRefIdeal.Skeleton
public import proofs.«01_k».proof.Proof.Gen.MainRefIdeal.Launch
public import proofs.«01_k».proof.Proof.Gen.MainRefIdeal.Points
public import proofs.«01_k».proof.Proof.Gen.MainRefIdeal.Frame
public import Idealize.ShloMosaic.Adequacy
public import Idealize.ShloMosaic.Init

@[expose] public section

noncomputable section

namespace Cert.Proof

open Idealize.ShloMosaic Idealize.SL.Sem Cert.Front

/-- Every claim of the certificate. -/
theorem claim : Cert.Claim := ⟨Cert.Front.Gen.facts, Cert.FrontIdeal.Gen.facts, Cert.FrontRefIdeal.Gen.facts,
  Cert.Main.Gen.facts, Cert.MainIdeal.Gen.facts, Cert.MainRefIdeal.Gen.facts,
  fun m ρ _ => Cert.Front.Gen.frame m ρ, fun m ρ _ => Cert.FrontIdeal.Gen.frame m ρ,
  fun m ρ _ => Cert.FrontRefIdeal.Gen.frame m ρ,
  fun m ρ _ => Cert.Main.Gen.frame m ρ, fun m ρ _ => Cert.MainIdeal.Gen.frame m ρ, fun m ρ _ => Cert.MainRefIdeal.Gen.frame m ρ,
  trivial, Cert.FrontValue.algebraic, trivial, Cert.MainValue.algebraic⟩

end Cert.Proof

end
